-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_XKernel (m : (ℓ : Loc Cert.XKernel.nD Cert.XKernel.τ Cert.XKernel.sig) → Buf (Elt Bits) ℓ) : Prop :=
  True

def Pre_XKernelIdeal (m : (ℓ : Loc Cert.XKernelIdeal.nD Cert.XKernelIdeal.τ Cert.XKernelIdeal.sig) → Buf (Elt Ideal) ℓ) : Prop :=
  True

def Pre_XReferenceIdeal (m : (ℓ : Loc Cert.XReferenceIdeal.nD Cert.XReferenceIdeal.τ Cert.XReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_XKernel [hXKernel : Cert.XKernel.Facts] : Prop :=
  ∀ (m : (ℓ : Loc Cert.XKernel.nD Cert.XKernel.τ Cert.XKernel.sig) → Buf (Elt Bits) ℓ) (g : Dev Cert.XKernel.nD → PrngReg), Pre_XKernel m →
    θ_run (Cert.XKernel.defs (F := Bits)) (onTc (τ := Cert.XKernel.τ) (Cert.XKernel.main (F := Bits))) ⟨m, fun _ => 0, g⟩ (fun r => (∀ c : Dev Cert.XKernel.nD,
      r.2.mem ((c.tc : Thread Cert.XKernel.nD Cert.XKernel.τ).loc Cert.XKernel.main_arg0) = m ((c.tc : Thread Cert.XKernel.nD Cert.XKernel.τ).loc Cert.XKernel.main_arg0)
      ∧ r.2.mem ((c.tc : Thread Cert.XKernel.nD Cert.XKernel.τ).loc Cert.XKernel.main_arg1) = m ((c.tc : Thread Cert.XKernel.nD Cert.XKernel.τ).loc Cert.XKernel.main_arg1))
      ∧ r.2.sem = fun _ => 0)

def quiescent_XKernelIdeal [hXKernelIdeal : Cert.XKernelIdeal.Facts] : Prop :=
  ∀ (m : (ℓ : Loc Cert.XKernelIdeal.nD Cert.XKernelIdeal.τ Cert.XKernelIdeal.sig) → Buf (Elt Ideal) ℓ) (g : Dev Cert.XKernelIdeal.nD → PrngReg), Pre_XKernelIdeal m →
    θ_run (Cert.XKernelIdeal.defs (F := Ideal)) (onTc (τ := Cert.XKernelIdeal.τ) (Cert.XKernelIdeal.main (F := Ideal))) ⟨m, fun _ => 0, g⟩ (fun r => (∀ c : Dev Cert.XKernelIdeal.nD,
      r.2.mem ((c.tc : Thread Cert.XKernelIdeal.nD Cert.XKernelIdeal.τ).loc Cert.XKernelIdeal.main_arg0) = m ((c.tc : Thread Cert.XKernelIdeal.nD Cert.XKernelIdeal.τ).loc Cert.XKernelIdeal.main_arg0)
      ∧ r.2.mem ((c.tc : Thread Cert.XKernelIdeal.nD Cert.XKernelIdeal.τ).loc Cert.XKernelIdeal.main_arg1) = m ((c.tc : Thread Cert.XKernelIdeal.nD Cert.XKernelIdeal.τ).loc Cert.XKernelIdeal.main_arg1))
      ∧ r.2.sem = fun _ => 0)

def quiescent_XReferenceIdeal [hXReferenceIdeal : Cert.XReferenceIdeal.Facts] : Prop :=
  ∀ (m : (ℓ : Loc Cert.XReferenceIdeal.nD Cert.XReferenceIdeal.τ Cert.XReferenceIdeal.sig) → Buf (Elt Ideal) ℓ) (g : Dev Cert.XReferenceIdeal.nD → PrngReg), Pre_XReferenceIdeal m →
    θ_run (Cert.XReferenceIdeal.defs (F := Ideal)) (onTc (τ := Cert.XReferenceIdeal.τ) (Cert.XReferenceIdeal.main (F := Ideal))) ⟨m, fun _ => 0, g⟩ (fun r => (∀ c : Dev Cert.XReferenceIdeal.nD,
      r.2.mem ((c.tc : Thread Cert.XReferenceIdeal.nD Cert.XReferenceIdeal.τ).loc Cert.XReferenceIdeal.main_arg0) = m ((c.tc : Thread Cert.XReferenceIdeal.nD Cert.XReferenceIdeal.τ).loc Cert.XReferenceIdeal.main_arg0)
      ∧ r.2.mem ((c.tc : Thread Cert.XReferenceIdeal.nD Cert.XReferenceIdeal.τ).loc Cert.XReferenceIdeal.main_arg1) = m ((c.tc : Thread Cert.XReferenceIdeal.nD Cert.XReferenceIdeal.τ).loc Cert.XReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_XKernel_XKernelIdeal : Prop :=
  True

def algebraic_XKernelIdeal_XReferenceIdeal [hXKernelIdeal : Cert.XKernelIdeal.Facts] [hXReferenceIdeal : Cert.XReferenceIdeal.Facts] : Prop :=
  ∀ (m : (ℓ : Loc Cert.XKernelIdeal.nD Cert.XKernelIdeal.τ Cert.XKernelIdeal.sig) → Buf (Elt Ideal) ℓ) (g : Dev Cert.XKernelIdeal.nD → PrngReg)
    (m' : (ℓ : Loc Cert.XReferenceIdeal.nD Cert.XReferenceIdeal.τ Cert.XReferenceIdeal.sig) → Buf (Elt Ideal) ℓ) (g' : Dev Cert.XReferenceIdeal.nD → PrngReg), Pre_XKernelIdeal m →
    (∀ c : Dev Cert.XKernelIdeal.nD,
      m' ((c.tc : Thread Cert.XReferenceIdeal.nD Cert.XReferenceIdeal.τ).loc Cert.XReferenceIdeal.main_arg0) = m ((c.tc : Thread Cert.XKernelIdeal.nD Cert.XKernelIdeal.τ).loc Cert.XKernelIdeal.main_arg0)
      ∧ m' ((c.tc : Thread Cert.XReferenceIdeal.nD Cert.XReferenceIdeal.τ).loc Cert.XReferenceIdeal.main_arg1) = m ((c.tc : Thread Cert.XKernelIdeal.nD Cert.XKernelIdeal.τ).loc Cert.XKernelIdeal.main_arg1)) →
    ∃ (v0 : (c : Dev Cert.XKernelIdeal.nD) → Buf (Elt Ideal) ((c.tc : Thread Cert.XKernelIdeal.nD Cert.XKernelIdeal.τ).loc Cert.XKernelIdeal.main_v0_0)) (v1 : (c : Dev Cert.XKernelIdeal.nD) → Buf (Elt Ideal) ((c.tc : Thread Cert.XKernelIdeal.nD Cert.XKernelIdeal.τ).loc Cert.XKernelIdeal.main_v0_1)) (v2 : (c : Dev Cert.XKernelIdeal.nD) → Buf (Elt Ideal) ((c.tc : Thread Cert.XKernelIdeal.nD Cert.XKernelIdeal.τ).loc Cert.XKernelIdeal.main_v0_2)),
      θ_run (Cert.XKernelIdeal.defs (F := Ideal)) (onTc (τ := Cert.XKernelIdeal.τ) (Cert.XKernelIdeal.main (F := Ideal))) ⟨m, fun _ => 0, g⟩ (fun r => ∀ c : Dev Cert.XKernelIdeal.nD,
          r.2.mem ((c.tc : Thread Cert.XKernelIdeal.nD Cert.XKernelIdeal.τ).loc Cert.XKernelIdeal.main_v0_0) = v0 c
          ∧ r.2.mem ((c.tc : Thread Cert.XKernelIdeal.nD Cert.XKernelIdeal.τ).loc Cert.XKernelIdeal.main_v0_1) = v1 c
          ∧ r.2.mem ((c.tc : Thread Cert.XKernelIdeal.nD Cert.XKernelIdeal.τ).loc Cert.XKernelIdeal.main_v0_2) = v2 c
          ∧ r.2.mem ((c.tc : Thread Cert.XKernelIdeal.nD Cert.XKernelIdeal.τ).loc Cert.XKernelIdeal.main_arg0) = m ((c.tc : Thread Cert.XKernelIdeal.nD Cert.XKernelIdeal.τ).loc Cert.XKernelIdeal.main_arg0)
          ∧ r.2.mem ((c.tc : Thread Cert.XKernelIdeal.nD Cert.XKernelIdeal.τ).loc Cert.XKernelIdeal.main_arg1) = m ((c.tc : Thread Cert.XKernelIdeal.nD Cert.XKernelIdeal.τ).loc Cert.XKernelIdeal.main_arg1))
      ∧ θ_run (Cert.XReferenceIdeal.defs (F := Ideal)) (onTc (τ := Cert.XReferenceIdeal.τ) (Cert.XReferenceIdeal.main (F := Ideal))) ⟨m', fun _ => 0, g'⟩ (fun r => ∀ c : Dev Cert.XReferenceIdeal.nD,
          r.2.mem ((c.tc : Thread Cert.XReferenceIdeal.nD Cert.XReferenceIdeal.τ).loc Cert.XReferenceIdeal.main_v0_0) = v0 c
          ∧ r.2.mem ((c.tc : Thread Cert.XReferenceIdeal.nD Cert.XReferenceIdeal.τ).loc Cert.XReferenceIdeal.main_v0_1) = v1 c
          ∧ r.2.mem ((c.tc : Thread Cert.XReferenceIdeal.nD Cert.XReferenceIdeal.τ).loc Cert.XReferenceIdeal.main_v0_2) = v2 c
          ∧ r.2.mem ((c.tc : Thread Cert.XReferenceIdeal.nD Cert.XReferenceIdeal.τ).loc Cert.XReferenceIdeal.main_arg0) = m' ((c.tc : Thread Cert.XReferenceIdeal.nD Cert.XReferenceIdeal.τ).loc Cert.XReferenceIdeal.main_arg0)
          ∧ r.2.mem ((c.tc : Thread Cert.XReferenceIdeal.nD Cert.XReferenceIdeal.τ).loc Cert.XReferenceIdeal.main_arg1) = m' ((c.tc : Thread Cert.XReferenceIdeal.nD Cert.XReferenceIdeal.τ).loc Cert.XReferenceIdeal.main_arg1))

def Claim : Prop :=
  ∃ (hKernel : Cert.Kernel.Facts) (hKernelIdeal : Cert.KernelIdeal.Facts) (hReferenceIdeal : Cert.ReferenceIdeal.Facts) (hXKernel : Cert.XKernel.Facts) (hXKernelIdeal : Cert.XKernelIdeal.Facts) (hXReferenceIdeal : Cert.XReferenceIdeal.Facts),
    quiescent_Kernel (hKernel := hKernel)
    ∧ quiescent_KernelIdeal (hKernelIdeal := hKernelIdeal)
    ∧ quiescent_ReferenceIdeal (hReferenceIdeal := hReferenceIdeal)
    ∧ quiescent_XKernel (hXKernel := hXKernel)
    ∧ quiescent_XKernelIdeal (hXKernelIdeal := hXKernelIdeal)
    ∧ quiescent_XReferenceIdeal (hXReferenceIdeal := hXReferenceIdeal)
    ∧ preserves_Kernel_KernelIdeal
    ∧ algebraic_KernelIdeal_ReferenceIdeal (hKernelIdeal := hKernelIdeal) (hReferenceIdeal := hReferenceIdeal)
    ∧ preserves_XKernel_XKernelIdeal
    ∧ algebraic_XKernelIdeal_XReferenceIdeal (hXKernelIdeal := hXKernelIdeal) (hXReferenceIdeal := hXReferenceIdeal)
-- ==== Kernel.lean ====
abbrev S2304x12288 : Shape := ⟨2, ![2304, 12288]⟩
abbrev S12288x9216 : Shape := ⟨2, ![12288, 9216]⟩
abbrev S2304x9216 : Shape := ⟨2, ![2304, 9216]⟩
abbrev S96x9216 : Shape := ⟨2, ![96, 9216]⟩
abbrev S2304x1024 : Shape := ⟨2, ![2304, 1024]⟩
abbrev S1024x1024 : Shape := ⟨2, ![1024, 1024]⟩
abbrev S8x1024 : Shape := ⟨2, ![8, 1024]⟩
abbrev S128x256 : Shape := ⟨2, ![128, 256]⟩
abbrev S256 : Shape := ⟨1, ![256]⟩
abbrev S1x256 : Shape := ⟨2, ![1, 256]⟩
abbrev S256x256 : Shape := ⟨2, ![256, 256]⟩

abbrev nBuf : Space → Nat
  | .hbm => 5
  | .vmem => 11
  | .smem => 0
  | _ => 0

abbrev bufTy : (tb : Table) → Fin (tcTables nBuf tb) → BufTy
  | .hbm, ⟨0, _⟩ => ⟨S2304x12288, .bf16⟩
  | .hbm, ⟨1, _⟩ => ⟨S12288x9216, .bf16⟩
  | .hbm, ⟨2, _⟩ => ⟨S2304x9216, .f32⟩
  | .hbm, ⟨3, _⟩ => ⟨S12288x9216, .fp8e4m3⟩
  | .hbm, ⟨4, _⟩ => ⟨S96x9216, .f32⟩
  | .local _ .vmem, ⟨0, _⟩ => ⟨S2304x1024, .bf16⟩
  | .local _ .vmem, ⟨1, _⟩ => ⟨S2304x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2304x1024, .f32⟩
  | .local _ .vmem, ⟨5, _⟩ => ⟨S2304x1024, .f32⟩
  | .local _ .vmem, ⟨6, _⟩ => ⟨S1024x1024, .fp8e4m3⟩
  | .local _ .vmem, ⟨7, _⟩ => ⟨S1024x1024, .fp8e4m3⟩
  | .local _ .vmem, ⟨8, _⟩ => ⟨S8x1024, .f32⟩
  | .local _ .vmem, ⟨9, _⟩ => ⟨S8x1024, .f32⟩
  | .local _ .vmem, ⟨10, _⟩ => ⟨S1024x1024, .bf16⟩
  | _, _ => ⟨S2304x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2304x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2304x12288 : Shape := ⟨2, ![2304, 12288]⟩
abbrev S12288x9216 : Shape := ⟨2, ![12288, 9216]⟩
abbrev S2304x9216 : Shape := ⟨2, ![2304, 9216]⟩
abbrev S96x9216 : Shape := ⟨2, ![96, 9216]⟩
abbrev S96x128x9216 : Shape := ⟨3, ![96, 128, 9216]⟩
abbrev S96x1x9216 : Shape := ⟨3, ![96, 1, 9216]⟩

abbrev nBuf : Space → Nat
  | .hbm => 5
  | .vmem => 5
  | .smem => 0
  | _ => 0

abbrev bufTy : (tb : Table) → Fin (tcTables nBuf tb) → BufTy
  | .hbm, ⟨0, _⟩ => ⟨S2304x12288, .bf16⟩
  | .hbm, ⟨1, _⟩ => ⟨S12288x9216, .bf16⟩
  | .hbm, ⟨2, _⟩ => ⟨S2304x9216, .f32⟩
  | .hbm, ⟨3, _⟩ => ⟨S12288x9216, .fp8e4m3⟩
  | .hbm, ⟨4, _⟩ => ⟨S96x9216, .f32⟩
  | .local _ .vmem, ⟨0, _⟩ => ⟨S2304x12288, .bf16⟩
  | .local _ .vmem, ⟨1, _⟩ => ⟨S12288x9216, .bf16⟩
  | .local _ .vmem, ⟨2, _⟩ => ⟨S2304x9216, .f32⟩
  | .local _ .vmem, ⟨3, _⟩ => ⟨S12288x9216, .fp8e4m3⟩
  | .local _ .vmem, ⟨4, _⟩ => ⟨S96x9216, .f32⟩
  | _, _ => ⟨S2304x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S2304x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x9216 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x9216 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== XKernel.lean ====
abbrev S12288x2304 : Shape := ⟨2, ![12288, 2304]⟩
abbrev S12288x18 : Shape := ⟨2, ![12288, 18]⟩
abbrev S2304x12288 : Shape := ⟨2, ![2304, 12288]⟩
abbrev S2304x96 : Shape := ⟨2, ![2304, 96]⟩
abbrev S1024x2304 : Shape := ⟨2, ![1024, 2304]⟩
abbrev S1024x18 : Shape := ⟨2, ![1024, 18]⟩
abbrev S2304x1024 : Shape := ⟨2, ![2304, 1024]⟩
abbrev S16x8x2304 : Shape := ⟨3, ![16, 8, 2304]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S256x128 : Shape := ⟨2, ![256, 128]⟩
abbrev S1x1x128 : Shape := ⟨3, ![1, 1, 128]⟩
abbrev S128x2304 : Shape := ⟨2, ![128, 2304]⟩
abbrev S2304x128 : Shape := ⟨2, ![2304, 128]⟩

abbrev nBuf : Space → Nat
  | .hbm => 5
  | .vmem => 10
  | .smem => 0
  | _ => 0

abbrev bufTy : (tb : Table) → Fin (tcTables nBuf tb) → BufTy
  | .hbm, ⟨0, _⟩ => ⟨S12288x2304, .fp8e4m3⟩
  | .hbm, ⟨1, _⟩ => ⟨S12288x18, .f32⟩
  | .hbm, ⟨2, _⟩ => ⟨S2304x12288, .fp8e4m3⟩
  | .hbm, ⟨3, _⟩ => ⟨S2304x96, .f32⟩
  | .hbm, ⟨4, _⟩ => ⟨S2304x12288, .bf16⟩
  | .local _ .vmem, ⟨0, _⟩ => ⟨S1024x2304, .fp8e4m3⟩
  | .local _ .vmem, ⟨1, _⟩ => ⟨S1024x2304, .fp8e4m3⟩
  | .local _ .vmem, ⟨2, _⟩ => ⟨S1024x18, .f32⟩
  | .local _ .vmem, ⟨3, _⟩ => ⟨S1024x18, .f32⟩
  | .local _ .vmem, ⟨4, _⟩ => ⟨S2304x1024, .fp8e4m3⟩
  | .local _ .vmem, ⟨5, _⟩ => ⟨S2304x1024, .fp8e4m3⟩
  | .local _ .vmem, ⟨6, _⟩ => ⟨S2304x96, .f32⟩
  | .local _ .vmem, ⟨7, _⟩ => ⟨S2304x1024, .bf16⟩
  | .local _ .vmem, ⟨8, _⟩ => ⟨S2304x1024, .bf16⟩
  | .local _ .vmem, ⟨9, _⟩ => ⟨S16x8x2304, .f32⟩
  | _, _ => ⟨S12288x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![12], ![false]⟩

def k0_off1 (i : grid0.Coords) : Fin 3 → Nat :=
  let arg0 : BitVec 32 := BitVec.ofNat 32 (i 0).val
  let v62 : Index := Scalar.indexCast arg0
  let c0_19 : Index := 0#32
  let c0_20 : Index := 0#32
  ![v62.toNat, 0, 0]
def k0_off2 (i : grid0.Coords) : Fin 3 → Nat :=
  let arg0 : BitVec 32 := BitVec.ofNat 32 (i 0).val
  let v128 : Index := Scalar.indexCast arg0
  let c0_46 : Index := 0#32
  let c128_47 : Index := 128#32
  ![v128.toNat, 0, 128]
def k0_off3 (i : grid0.Coords) : Fin 3 → Nat :=
  let arg0 : BitVec 32 := BitVec.ofNat 32 (i 0).val
  let v194 : Index := Scalar.indexCast arg0
  let c0_73 : Index := 0#32
  let c256_74 : Index := 256#32
  ![v194.toNat, 0, 256]
def k0_off4 (i : grid0.Coords) : Fin 3 → Nat :=
  let arg0 : BitVec 32 := BitVec.ofNat 32 (i 0).val
  let v260 : Index := Scalar.indexCast arg0
  let c0_100 : Index := 0#32
  let c384_101 : Index := 384#32
  ![v260.toNat, 0, 384]
def k0_off5 (i : grid0.Coords) : Fin 3 → Nat :=
  let arg0 : BitVec 32 := BitVec.ofNat 32 (i 0).val
  let v326 : Index := Scalar.indexCast arg0
  let c0_127 : Index := 0#32
  let c512_128 : Index := 512#32
  ![v326.toNat, 0, 512]
def k0_off6 (i : grid0.Coords) : Fin 3 → Nat :=
  let arg0 : BitVec 32 := BitVec.ofNat 32 (i 0).val
  let v392 : Index := Scalar.indexCast arg0
  let c0_154 : Index := 0#32
  let c640_155 : Index := 640#32
  ![v392.toNat, 0, 640]
def k0_off7 (i : grid0.Coords) : Fin 3 → Nat :=
  let arg0 : BitVec 32 := BitVec.ofNat 32 (i 0).val
  let v458 : Index := Scalar.indexCast arg0
  let c0_181 : Index := 0#32
  let c768_182 : Index := 768#32
  ![v458.toNat, 0, 768]
def k0_off8 (i : grid0.Coords) : Fin 3 → Nat :=
  let arg0 : BitVec 32 := BitVec.ofNat 32 (i 0).val
  let v524 : Index := Scalar.indexCast arg0
  let c0_208 : Index := 0#32
  let c896_209 : Index := 896#32
  ![v524.toNat, 0, 896]
def k0_off9 (i : grid0.Coords) : Fin 3 → Nat :=
  let arg0 : BitVec 32 := BitVec.ofNat 32 (i 0).val
  let v590 : Index := Scalar.indexCast arg0
  let c0_235 : Index := 0#32
  let c1024_236 : Index := 1024#32
  ![v590.toNat, 0, 1024]
def k0_off10 (i : grid0.Coords) : Fin 3 → Nat :=
  let arg0 : BitVec 32 := BitVec.ofNat 32 (i 0).val
  let v656 : Index := Scalar.indexCast arg0
  let c0_262 : Index := 0#32
  let c1152_263 : Index := 1152#32
  ![v656.toNat, 0, 1152]
def k0_off11 (i : grid0.Coords) : Fin 3 → Nat :=
  let arg0 : BitVec 32 := BitVec.ofNat 32 (i 0).val
  let v722 : Index := Scalar.indexCast arg0
  let c0_289 : Index := 0#32
  let c1280_290 : Index := 1280#32
  ![v722.toNat, 0, 1280]
def k0_off12 (i : grid0.Coords) : Fin 3 → Nat :=
  let arg0 : BitVec 32 := BitVec.ofNat 32 (i 0).val
  let v788 : Index := Scalar.indexCast arg0
  let c0_316 : Index := 0#32
  let c1408_317 : Index := 1408#32
  ![v788.toNat, 0, 1408]
def k0_off13 (i : grid0.Coords) : Fin 3 → Nat :=
  let arg0 : BitVec 32 := BitVec.ofNat 32 (i 0).val
  let v854 : Index := Scalar.indexCast arg0
  let c0_343 : Index := 0#32
  let c1536_344 : Index := 1536#32
  ![v854.toNat, 0, 1536]
def k0_off14 (i : grid0.Coords) : Fin 3 → Nat :=
  let arg0 : BitVec 32 := BitVec.ofNat 32 (i 0).val
  let v920 : Index := Scalar.indexCast arg0
  let c0_370 : Index := 0#32
  let c1664_371 : Index := 1664#32
  ![v920.toNat, 0, 1664]
def k0_off15 (i : grid0.Coords) : Fin 3 → Nat :=
  let arg0 : BitVec 32 := BitVec.ofNat 32 (i 0).val
  let v986 : Index := Scalar.indexCast arg0
  let c0_397 : Index := 0#32
  let c1792_398 : Index := 1792#32
  ![v986.toNat, 0, 1792]
def k0_off16 (i : grid0.Coords) : Fin 3 → Nat :=
  let arg0 : BitVec 32 := BitVec.ofNat 32 (i 0).val
  let v1052 : Index := Scalar.indexCast arg0
  let c0_424 : Index := 0#32
  let c1920_425 : Index := 1920#32
  ![v1052.toNat, 0, 1920]
def k0_off17 (i : grid0.Coords) : Fin 3 → Nat :=
  let arg0 : BitVec 32 := BitVec.ofNat 32 (i 0).val
  let v1118 : Index := Scalar.indexCast arg0
  let c0_451 : Index := 0#32
  let c2048_452 : Index := 2048#32
  ![v1118.toNat, 0, 2048]
def k0_off18 (i : grid0.Coords) : Fin 3 → Nat :=
  let arg0 : BitVec 32 := BitVec.ofNat 32 (i 0).val
  let v1184 : Index := Scalar.indexCast arg0
  let c0_478 : Index := 0#32
  let c2176_479 : Index := 2176#32
  ![v1184.toNat, 0, 2176]
def k0_off19 (i : grid0.Coords) : Fin 3 → Nat :=
  let arg0 : BitVec 32 := BitVec.ofNat 32 (i 0).val
  let v1250 : Index := Scalar.indexCast arg0
  let c1_507 : Index := 1#32
  let c0_508 : Index := 0#32
  ![v1250.toNat, 1, 0]
def k0_off20 (i : grid0.Coords) : Fin 3 → Nat :=
  let arg0 : BitVec 32 := BitVec.ofNat 32 (i 0).val
  let v1316 : Index := Scalar.indexCast arg0
  let c1_536 : Index := 1#32
  let c128_537 : Index := 128#32
  ![v1316.toNat, 1, 128]
def k0_off21 (i : grid0.Coords) : Fin 3 → Nat :=
  let arg0 : BitVec 32 := BitVec.ofNat 32 (i 0).val
  let v1382 : Index := Scalar.indexCast arg0
  let c1_565 : Index := 1#32
  let c256_566 : Index := 256#32
  ![v1382.toNat, 1, 256]
def k0_off22 (i : grid0.Coords) : Fin 3 → Nat :=
  let arg0 : BitVec 32 := BitVec.ofNat 32 (i 0).val
  let v1448 : Index := Scalar.indexCast arg0
  let c1_594 : Index := 1#32
  let c384_595 : Index := 384#32
  ![v1448.toNat, 1, 384]
def k0_off23 (i : grid0.Coords) : Fin 3 → Nat :=
  let arg0 : BitVec 32 := BitVec.ofNat 32 (i 0).val
  let v1514 : Index := Scalar.indexCast arg0
  let c1_623 : Index := 1#32
  let c512_624 : Index := 512#32
  ![v1514.toNat, 1, 512]
def k0_off24 (i : grid0.Coords) : Fin 3 → Nat :=
  let arg0 : BitVec 32 := BitVec.ofNat 32 (i 0).val
  let v1580 : Index := Scalar.indexCast arg0
  let c1_652 : Index := 1#32
  let c640_653 : Index := 640#32
  ![v1580.toNat, 1, 640]
def k0_off25 (i : grid0.Coords) : Fin 3 → Nat :=
  let arg0 : BitVec 32 := BitVec.ofNat 32 (i 0).val
  let v1646 : Index := Scalar.indexCast arg0
  let c1_681 : Index := 1#32
  let c768_682 : Index := 768#32
  ![v1646.toNat, 1, 768]
def k0_off26 (i : grid0.Coords) : Fin 3 → Nat :=
  let arg0 : BitVec 32 := BitVec.ofNat 32 (i 0).val
  let v1712 : Index := Scalar.indexCast arg0
  let c1_710 : Index := 1#32
  let c896_711 : Index := 896#32
  ![v1712.toNat, 1, 896]
def k0_off27 (i : grid0.Coords) : Fin 3 → Nat :=
  let arg0 : BitVec 32 := BitVec.ofNat 32 (i 0).val
  let v1778 : Index := Scalar.indexCast arg0
  let c1_739 : Index := 1#32
  let c1024_740 : Index := 1024#32
  ![v1778.toNat, 1, 1024]
def k0_off28 (i : grid0.Coords) : Fin 3 → Nat :=
  let arg0 : BitVec 32 := BitVec.ofNat 32 (i 0).val
  let v1844 : Index := Scalar.indexCast arg0
  let c1_768 : Index := 1#32
  let c1152_769 : Index := 1152#32
  ![v1844.toNat, 1, 1152]
def k0_off29 (i : grid0.Coords) : Fin 3 → Nat :=
  let arg0 : BitVec 32 := BitVec.ofNat 32 (i 0).val
  let v1910 : Index := Scalar.indexCast arg0
  let c1_797 : Index := 1#32
  let c1280_798 : Index := 1280#32
  ![v1910.toNat, 1, 1280]
def k0_off30 (i : grid0.Coords) : Fin 3 → Nat :=
  let arg0 : BitVec 32 := BitVec.ofNat 32 (i 0).val
  let v1976 : Index := Scalar.indexCast arg0
  let c1_826 : Index := 1#32
  let c1408_827 : Index := 1408#32
  ![v1976.toNat, 1, 1408]
def k0_off31 (i : grid0.Coords) : Fin 3 → Nat :=
  let arg0 : BitVec 32 := BitVec.ofNat 32 (i 0).val
  let v2042 : Index := Scalar.indexCast arg0
  let c1_855 : Index := 1#32
  let c1536_856 : Index := 1536#32
  ![v2042.toNat, 1, 1536]
def k0_off32 (i : grid0.Coords) : Fin 3 → Nat :=
  let arg0 : BitVec 32 := BitVec.ofNat 32 (i 0).val
  let v2108 : Index := Scalar.indexCast arg0
  let c1_884 : Index := 1#32
  let c1664_885 : Index := 1664#32
  ![v2108.toNat, 1, 1664]
def k0_off33 (i : grid0.Coords) : Fin 3 → Nat :=
  let arg0 : BitVec 32 := BitVec.ofNat 32 (i 0).val
  let v2174 : Index := Scalar.indexCast arg0
  let c1_913 : Index := 1#32
  let c1792_914 : Index := 1792#32
  ![v2174.toNat, 1, 1792]
def k0_off34 (i : grid0.Coords) : Fin 3 → Nat :=
  let arg0 : BitVec 32 := BitVec.ofNat 32 (i 0).val
  let v2240 : Index := Scalar.indexCast arg0
  let c1_942 : Index := 1#32
  let c1920_943 : Index := 1920#32
  ![v2240.toNat, 1, 1920]
def k0_off35 (i : grid0.Coords) : Fin 3 → Nat :=
  let arg0 : BitVec 32 := BitVec.ofNat 32 (i 0).val
  let v2306 : Index := Scalar.indexCast arg0
  let c1_971 : Index := 1#32
  let c2048_972 : Index := 2048#32
  ![v2306.toNat, 1, 2048]
def k0_off36 (i : grid0.Coords) : Fin 3 → Nat :=
  let arg0 : BitVec 32 := BitVec.ofNat 32 (i 0).val
  let v2372 : Index := Scalar.indexCast arg0
  let c1_1000 : Index := 1#32
  let c2176_1001 : Index := 2176#32
  ![v2372.toNat, 1, 2176]
def k0_off37 (i : grid0.Coords) : Fin 3 → Nat :=
  let arg0 : BitVec 32 := BitVec.ofNat 32 (i 0).val
  let v2438 : Index := Scalar.indexCast arg0
  let c2_1029 : Index := 2#32
  let c0_1030 : Index := 0#32
  ![v2438.toNat, 2, 0]
def k0_off38 (i : grid0.Coords) : Fin 3 → Nat :=
  let arg0 : BitVec 32 := BitVec.ofNat 32 (i 0).val
  let v2504 : Index := Scalar.indexCast arg0
  let c2_1058 : Index := 2#32
  let c128_1059 : Index := 128#32
  ![v2504.toNat, 2, 128]
def k0_off39 (i : grid0.Coords) : Fin 3 → Nat :=
  let arg0 : BitVec 32 := BitVec.ofNat 32 (i 0).val
  let v2570 : Index := Scalar.indexCast arg0
  let c2_1087 : Index := 2#32
  let c256_1088 : Index := 256#32
  ![v2570.toNat, 2, 256]
def k0_off40 (i : grid0.Coords) : Fin 3 → Nat :=
  let arg0 : BitVec 32 := BitVec.ofNat 32 (i 0).val
  let v2636 : Index := Scalar.indexCast arg0
  let c2_1116 : Index := 2#32
  let c384_1117 : Index := 384#32
  ![v2636.toNat, 2, 384]
def k0_off41 (i : grid0.Coords) : Fin 3 → Nat :=
  let arg0 : BitVec 32 := BitVec.ofNat 32 (i 0).val
  let v2702 : Index := Scalar.indexCast arg0
  let c2_1145 : Index := 2#32
  let c512_1146 : Index := 512#32
  ![v2702.toNat, 2, 512]
def k0_off42 (i : grid0.Coords) : Fin 3 → Nat :=
  let arg0 : BitVec 32 := BitVec.ofNat 32 (i 0).val
  let v2768 : Index := Scalar.indexCast arg0
  let c2_1174 : Index := 2#32
  let c640_1175 : Index := 640#32
  ![v2768.toNat, 2, 640]
def k0_off43 (i : grid0.Coords) : Fin 3 → Nat :=
  let arg0 : BitVec 32 := BitVec.ofNat 32 (i 0).val
  let v2834 : Index := Scalar.indexCast arg0
  let c2_1203 : Index := 2#32
  let c768_1204 : Index := 768#32
  ![v2834.toNat, 2, 768]
def k0_off44 (i : grid0.Coords) : Fin 3 → Nat :=
  let arg0 : BitVec 32 := BitVec.ofNat 32 (i 0).val
  let v2900 : Index := Scalar.indexCast arg0
  let c2_1232 : Index := 2#32
  let c896_1233 : Index := 896#32
  ![v2900.toNat, 2, 896]
def k0_off45 (i : grid0.Coords) : Fin 3 → Nat :=
  let arg0 : BitVec 32 := BitVec.ofNat 32 (i 0).val
  let v2966 : Index := Scalar.indexCast arg0
  let c2_1261 : Index := 2#32
  let c1024_1262 : Index := 1024#32
  ![v2966.toNat, 2, 1024]
def k0_off46 (i : grid0.Coords) : Fin 3 → Nat :=
  let arg0 : BitVec 32 := BitVec.ofNat 32 (i 0).val
  let v3032 : Index := Scalar.indexCast arg0
  let c2_1290 : Index := 2#32
  let c1152_1291 : Index := 1152#32
  ![v3032.toNat, 2, 1152]
def k0_off47 (i : grid0.Coords) : Fin 3 → Nat :=
  let arg0 : BitVec 32 := BitVec.ofNat 32 (i 0).val
  let v3098 : Index := Scalar.indexCast arg0
  let c2_1319 : Index := 2#32
  let c1280_1320 : Index := 1280#32
  ![v3098.toNat, 2, 1280]
def k0_off48 (i : grid0.Coords) : Fin 3 → Nat :=
  let arg0 : BitVec 32 := BitVec.ofNat 32 (i 0).val
  let v3164 : Index := Scalar.indexCast arg0
  let c2_1348 : Index := 2#32
  let c1408_1349 : Index := 1408#32
  ![v3164.toNat, 2, 1408]
def k0_off49 (i : grid0.Coords) : Fin 3 → Nat :=
  let arg0 : BitVec 32 := BitVec.ofNat 32 (i 0).val
  let v3230 : Index := Scalar.indexCast arg0
  let c2_1377 : Index := 2#32
  let c1536_1378 : Index := 1536#32
  ![v3230.toNat, 2, 1536]
def k0_off50 (i : grid0.Coords) : Fin 3 → Nat :=
  let arg0 : BitVec 32 := BitVec.ofNat 32 (i 0).val
  let v3296 : Index := Scalar.indexCast arg0
  let c2_1406 : Index := 2#32
  let c1664_1407 : Index := 1664#32
  ![v3296.toNat, 2, 1664]
def k0_off51 (i : grid0.Coords) : Fin 3 → Nat :=
  let arg0 : BitVec 32 := BitVec.ofNat 32 (i 0).val
  let v3362 : Index := Scalar.indexCast arg0
  let c2_1435 : Index := 2#32
  let c1792_1436 : Index := 1792#32
  ![v3362.toNat, 2, 1792]
def k0_off52 (i : grid0.Coords) : Fin 3 → Nat :=
  let arg0 : BitVec 32 := BitVec.ofNat 32 (i 0).val
  let v3428 : Index := Scalar.indexCast arg0
  let c2_1464 : Index := 2#32
  let c1920_1465 : Index := 1920#32
  ![v3428.toNat, 2, 1920]
def k0_off53 (i : grid0.Coords) : Fin 3 → Nat :=
  let arg0 : BitVec 32 := BitVec.ofNat 32 (i 0).val
  let v3494 : Index := Scalar.indexCast arg0
  let c2_1493 : Index := 2#32
  let c2048_1494 : Index := 2048#32
  ![v3494.toNat, 2, 2048]
def k0_off54 (i : grid0.Coords) : Fin 3 → Nat :=
  let arg0 : BitVec 32 := BitVec.ofNat 32 (i 0).val
  let v3560 : Index := Scalar.indexCast arg0
  let c2_1522 : Index := 2#32
  let c2176_1523 : Index := 2176#32
  ![v3560.toNat, 2, 2176]
def k0_off55 (i : grid0.Coords) : Fin 3 → Nat :=
  let arg0 : BitVec 32 := BitVec.ofNat 32 (i 0).val
  let v3626 : Index := Scalar.indexCast arg0
  let c3_1551 : Index := 3#32
  let c0_1552 : Index := 0#32
  ![v3626.toNat, 3, 0]
def k0_off56 (i : grid0.Coords) : Fin 3 → Nat :=
  let arg0 : BitVec 32 := BitVec.ofNat 32 (i 0).val
  let v3692 : Index := Scalar.indexCast arg0
  let c3_1580 : Index := 3#32
  let c128_1581 : Index := 128#32
  ![v3692.toNat, 3, 128]
def k0_off57 (i : grid0.Coords) : Fin 3 → Nat :=
  let arg0 : BitVec 32 := BitVec.ofNat 32 (i 0).val
  let v3758 : Index := Scalar.indexCast arg0
  let c3_1609 : Index := 3#32
  let c256_1610 : Index := 256#32
  ![v3758.toNat, 3, 256]
def k0_off58 (i : grid0.Coords) : Fin 3 → Nat :=
  let arg0 : BitVec 32 := BitVec.ofNat 32 (i 0).val
  let v3824 : Index := Scalar.indexCast arg0
  let c3_1638 : Index := 3#32
  let c384_1639 : Index := 384#32
  ![v3824.toNat, 3, 384]
def k0_off59 (i : grid0.Coords) : Fin 3 → Nat :=
  let arg0 : BitVec 32 := BitVec.ofNat 32 (i 0).val
  let v3890 : Index := Scalar.indexCast arg0
  let c3_1667 : Index := 3#32
  let c512_1668 : Index := 512#32
  ![v3890.toNat, 3, 512]
def k0_off60 (i : grid0.Coords) : Fin 3 → Nat :=
  let arg0 : BitVec 32 := BitVec.ofNat 32 (i 0).val
  let v3956 : Index := Scalar.indexCast arg0
  let c3_1696 : Index := 3#32
  let c640_1697 : Index := 640#32
  ![v3956.toNat, 3, 640]
def k0_off61 (i : grid0.Coords) : Fin 3 → Nat :=
  let arg0 : BitVec 32 := BitVec.ofNat 32 (i 0).val
  let v4022 : Index := Scalar.indexCast arg0
  let c3_1725 : Index := 3#32
  let c768_1726 : Index := 768#32
  ![v4022.toNat, 3, 768]
def k0_off62 (i : grid0.Coords) : Fin 3 → Nat :=
  let arg0 : BitVec 32 := BitVec.ofNat 32 (i 0).val
  let v4088 : Index := Scalar.indexCast arg0
  let c3_1754 : Index := 3#32
  let c896_1755 : Index := 896#32
  ![v4088.toNat, 3, 896]
def k0_off63 (i : grid0.Coords) : Fin 3 → Nat :=
  let arg0 : BitVec 32 := BitVec.ofNat 32 (i 0).val
  let v4154 : Index := Scalar.indexCast arg0
  let c3_1783 : Index := 3#32
  let c1024_1784 : Index := 1024#32
  ![v4154.toNat, 3, 1024]
def k0_off64 (i : grid0.Coords) : Fin 3 → Nat :=
  let arg0 : BitVec 32 := BitVec.ofNat 32 (i 0).val
  let v4220 : Index := Scalar.indexCast arg0
  let c3_1812 : Index := 3#32
  let c1152_1813 : Index := 1152#32
  ![v4220.toNat, 3, 1152]
def k0_off65 (i : grid0.Coords) : Fin 3 → Nat :=
  let arg0 : BitVec 32 := BitVec.ofNat 32 (i 0).val
  let v4286 : Index := Scalar.indexCast arg0
  let c3_1841 : Index := 3#32
  let c1280_1842 : Index := 1280#32
  ![v4286.toNat, 3, 1280]
def k0_off66 (i : grid0.Coords) : Fin 3 → Nat :=
  let arg0 : BitVec 32 := BitVec.ofNat 32 (i 0).val
  let v4352 : Index := Scalar.indexCast arg0
  let c3_1870 : Index := 3#32
  let c1408_1871 : Index := 1408#32
  ![v4352.toNat, 3, 1408]
def k0_off67 (i : grid0.Coords) : Fin 3 → Nat :=
  let arg0 : BitVec 32 := BitVec.ofNat 32 (i 0).val
  let v4418 : Index := Scalar.indexCast arg0
  let c3_1899 : Index := 3#32
  let c1536_1900 : Index := 1536#32
  ![v4418.toNat, 3, 1536]
def k0_off68 (i : grid0.Coords) : Fin 3 → Nat :=
  let arg0 : BitVec 32 := BitVec.ofNat 32 (i 0).val
  let v4484 : Index := Scalar.indexCast arg0
  let c3_1928 : Index := 3#32
  let c1664_1929 : Index := 1664#32
  ![v4484.toNat, 3, 1664]
def k0_off69 (i : grid0.Coords) : Fin 3 → Nat :=
  let arg0 : BitVec 32 := BitVec.ofNat 32 (i 0).val
  let v4550 : Index := Scalar.indexCast arg0
  let c3_1957 : Index := 3#32
  let c1792_1958 : Index := 1792#32
  ![v4550.toNat, 3, 1792]
def k0_off70 (i : grid0.Coords) : Fin 3 → Nat :=
  let arg0 : BitVec 32 := BitVec.ofNat 32 (i 0).val
  let v4616 : Index := Scalar.indexCast arg0
  let c3_1986 : Index := 3#32
  let c1920_1987 : Index := 1920#32
  ![v4616.toNat, 3, 1920]
def k0_off71 (i : grid0.Coords) : Fin 3 → Nat :=
  let arg0 : BitVec 32 := BitVec.ofNat 32 (i 0).val
  let v4682 : Index := Scalar.indexCast arg0
  let c3_2015 : Index := 3#32
  let c2048_2016 : Index := 2048#32
  ![v4682.toNat, 3, 2048]
def k0_off72 (i : grid0.Coords) : Fin 3 → Nat :=
  let arg0 : BitVec 32 := BitVec.ofNat 32 (i 0).val
  let v4748 : Index := Scalar.indexCast arg0
  let c3_2044 : Index := 3#32
  let c2176_2045 : Index := 2176#32
  ![v4748.toNat, 3, 2176]
def k0_off73 (i : grid0.Coords) : Fin 3 → Nat :=
  let arg0 : BitVec 32 := BitVec.ofNat 32 (i 0).val
  let v4814 : Index := Scalar.indexCast arg0
  let c4_2073 : Index := 4#32
  let c0_2074 : Index := 0#32
  ![v4814.toNat, 4, 0]
def k0_off74 (i : grid0.Coords) : Fin 3 → Nat :=
  let arg0 : BitVec 32 := BitVec.ofNat 32 (i 0).val
  let v4880 : Index := Scalar.indexCast arg0
  let c4_2102 : Index := 4#32
  let c128_2103 : Index := 128#32
  ![v4880.toNat, 4, 128]
def k0_off75 (i : grid0.Coords) : Fin 3 → Nat :=
  let arg0 : BitVec 32 := BitVec.ofNat 32 (i 0).val
  let v4946 : Index := Scalar.indexCast arg0
  let c4_2131 : Index := 4#32
  let c256_2132 : Index := 256#32
  ![v4946.toNat, 4, 256]
def k0_off76 (i : grid0.Coords) : Fin 3 → Nat :=
  let arg0 : BitVec 32 := BitVec.ofNat 32 (i 0).val
  let v5012 : Index := Scalar.indexCast arg0
  let c4_2160 : Index := 4#32
  let c384_2161 : Index := 384#32
  ![v5012.toNat, 4, 384]
def k0_off77 (i : grid0.Coords) : Fin 3 → Nat :=
  let arg0 : BitVec 32 := BitVec.ofNat 32 (i 0).val
  let v5078 : Index := Scalar.indexCast arg0
  let c4_2189 : Index := 4#32
  let c512_2190 : Index := 512#32
  ![v5078.toNat, 4, 512]
def k0_off78 (i : grid0.Coords) : Fin 3 → Nat :=
  let arg0 : BitVec 32 := BitVec.ofNat 32 (i 0).val
  let v5144 : Index := Scalar.indexCast arg0
  let c4_2218 : Index := 4#32
  let c640_2219 : Index := 640#32
  ![v5144.toNat, 4, 640]
def k0_off79 (i : grid0.Coords) : Fin 3 → Nat :=
  let arg0 : BitVec 32 := BitVec.ofNat 32 (i 0).val
  let v5210 : Index := Scalar.indexCast arg0
  let c4_2247 : Index := 4#32
  let c768_2248 : Index := 768#32
  ![v5210.toNat, 4, 768]
def k0_off80 (i : grid0.Coords) : Fin 3 → Nat :=
  let arg0 : BitVec 32 := BitVec.ofNat 32 (i 0).val
  let v5276 : Index := Scalar.indexCast arg0
  let c4_2276 : Index := 4#32
  let c896_2277 : Index := 896#32
  ![v5276.toNat, 4, 896]
def k0_off81 (i : grid0.Coords) : Fin 3 → Nat :=
  let arg0 : BitVec 32 := BitVec.ofNat 32 (i 0).val
  let v5342 : Index := Scalar.indexCast arg0
  let c4_2305 : Index := 4#32
  let c1024_2306 : Index := 1024#32
  ![v5342.toNat, 4, 1024]
def k0_off82 (i : grid0.Coords) : Fin 3 → Nat :=
  let arg0 : BitVec 32 := BitVec.ofNat 32 (i 0).val
  let v5408 : Index := Scalar.indexCast arg0
  let c4_2334 : Index := 4#32
  let c1152_2335 : Index := 1152#32
  ![v5408.toNat, 4, 1152]
def k0_off83 (i : grid0.Coords) : Fin 3 → Nat :=
  let arg0 : BitVec 32 := BitVec.ofNat 32 (i 0).val
  let v5474 : Index := Scalar.indexCast arg0
  let c4_2363 : Index := 4#32
  let c1280_2364 : Index := 1280#32
  ![v5474.toNat, 4, 1280]
def k0_off84 (i : grid0.Coords) : Fin 3 → Nat :=
  let arg0 : BitVec 32 := BitVec.ofNat 32 (i 0).val
  let v5540 : Index := Scalar.indexCast arg0
  let c4_2392 : Index := 4#32
  let c1408_2393 : Index := 1408#32
  ![v5540.toNat, 4, 1408]
def k0_off85 (i : grid0.Coords) : Fin 3 → Nat :=
  let arg0 : BitVec 32 := BitVec.ofNat 32 (i 0).val
  let v5606 : Index := Scalar.indexCast arg0
  let c4_2421 : Index := 4#32
  let c1536_2422 : Index := 1536#32
  ![v5606.toNat, 4, 1536]
def k0_off86 (i : grid0.Coords) : Fin 3 → Nat :=
  let arg0 : BitVec 32 := BitVec.ofNat 32 (i 0).val
  let v5672 : Index := Scalar.indexCast arg0
  let c4_2450 : Index := 4#32
  let c1664_2451 : Index := 1664#32
  ![v5672.toNat, 4, 1664]
def k0_off87 (i : grid0.Coords) : Fin 3 → Nat :=
  let arg0 : BitVec 32 := BitVec.ofNat 32 (i 0).val
  let v5738 : Index := Scalar.indexCast arg0
  let c4_2479 : Index := 4#32
  let c1792_2480 : Index := 1792#32
  ![v5738.toNat, 4, 1792]
def k0_off88 (i : grid0.Coords) : Fin 3 → Nat :=
  let arg0 : BitVec 32 := BitVec.ofNat 32 (i 0).val
  let v5804 : Index := Scalar.indexCast arg0
  let c4_2508 : Index := 4#32
  let c1920_2509 : Index := 1920#32
  ![v5804.toNat, 4, 1920]
def k0_off89 (i : grid0.Coords) : Fin 3 → Nat :=
  let arg0 : BitVec 32 := BitVec.ofNat 32 (i 0).val
  let v5870 : Index := Scalar.indexCast arg0
  let c4_2537 : Index := 4#32
  let c2048_2538 : Index := 2048#32
  ![v5870.toNat, 4, 2048]
def k0_off90 (i : grid0.Coords) : Fin 3 → Nat :=
  let arg0 : BitVec 32 := BitVec.ofNat 32 (i 0).val
  let v5936 : Index := Scalar.indexCast arg0
  let c4_2566 : Index := 4#32
  let c2176_2567 : Index := 2176#32
  ![v5936.toNat, 4, 2176]
def k0_off91 (i : grid0.Coords) : Fin 3 → Nat :=
  let arg0 : BitVec 32 := BitVec.ofNat 32 (i 0).val
  let v6002 : Index := Scalar.indexCast arg0
  let c5_2595 : Index := 5#32
  let c0_2596 : Index := 0#32
  ![v6002.toNat, 5, 0]
def k0_off92 (i : grid0.Coords) : Fin 3 → Nat :=
  let arg0 : BitVec 32 := BitVec.ofNat 32 (i 0).val
  let v6068 : Index := Scalar.indexCast arg0
  let c5_2624 : Index := 5#32
  let c128_2625 : Index := 128#32
  ![v6068.toNat, 5, 128]
def k0_off93 (i : grid0.Coords) : Fin 3 → Nat :=
  let arg0 : BitVec 32 := BitVec.ofNat 32 (i 0).val
  let v6134 : Index := Scalar.indexCast arg0
  let c5_2653 : Index := 5#32
  let c256_2654 : Index := 256#32
  ![v6134.toNat, 5, 256]
def k0_off94 (i : grid0.Coords) : Fin 3 → Nat :=
  let arg0 : BitVec 32 := BitVec.ofNat 32 (i 0).val
  let v6200 : Index := Scalar.indexCast arg0
  let c5_2682 : Index := 5#32
  let c384_2683 : Index := 384#32
  ![v6200.toNat, 5, 384]
def k0_off95 (i : grid0.Coords) : Fin 3 → Nat :=
  let arg0 : BitVec 32 := BitVec.ofNat 32 (i 0).val
  let v6266 : Index := Scalar.indexCast arg0
  let c5_2711 : Index := 5#32
  let c512_2712 : Index := 512#32
  ![v6266.toNat, 5, 512]
def k0_off96 (i : grid0.Coords) : Fin 3 → Nat :=
  let arg0 : BitVec 32 := BitVec.ofNat 32 (i 0).val
  let v6332 : Index := Scalar.indexCast arg0
  let c5_2740 : Index := 5#32
  let c640_2741 : Index := 640#32
  ![v6332.toNat, 5, 640]
def k0_off97 (i : grid0.Coords) : Fin 3 → Nat :=
  let arg0 : BitVec 32 := BitVec.ofNat 32 (i 0).val
  let v6398 : Index := Scalar.indexCast arg0
  let c5_2769 : Index := 5#32
  let c768_2770 : Index := 768#32
  ![v6398.toNat, 5, 768]
def k0_off98 (i : grid0.Coords) : Fin 3 → Nat :=
  let arg0 : BitVec 32 := BitVec.ofNat 32 (i 0).val
  let v6464 : Index := Scalar.indexCast arg0
  let c5_2798 : Index := 5#32
  let c896_2799 : Index := 896#32
  ![v6464.toNat, 5, 896]
def k0_off99 (i : grid0.Coords) : Fin 3 → Nat :=
  let arg0 : BitVec 32 := BitVec.ofNat 32 (i 0).val
  let v6530 : Index := Scalar.indexCast arg0
  let c5_2827 : Index := 5#32
  let c1024_2828 : Index := 1024#32
  ![v6530.toNat, 5, 1024]
def k0_off100 (i : grid0.Coords) : Fin 3 → Nat :=
  let arg0 : BitVec 32 := BitVec.ofNat 32 (i 0).val
  let v6596 : Index := Scalar.indexCast arg0
  let c5_2856 : Index := 5#32
  let c1152_2857 : Index := 1152#32
  ![v6596.toNat, 5, 1152]
def k0_off101 (i : grid0.Coords) : Fin 3 → Nat :=
  let arg0 : BitVec 32 := BitVec.ofNat 32 (i 0).val
  let v6662 : Index := Scalar.indexCast arg0
  let c5_2885 : Index := 5#32
  let c1280_2886 : Index := 1280#32
  ![v6662.toNat, 5, 1280]
def k0_off102 (i : grid0.Coords) : Fin 3 → Nat :=
  let arg0 : BitVec 32 := BitVec.ofNat 32 (i 0).val
  let v6728 : Index := Scalar.indexCast arg0
  let c5_2914 : Index := 5#32
  let c1408_2915 : Index := 1408#32
  ![v6728.toNat, 5, 1408]
def k0_off103 (i : grid0.Coords) : Fin 3 → Nat :=
  let arg0 : BitVec 32 := BitVec.ofNat 32 (i 0).val
  let v6794 : Index := Scalar.indexCast arg0
  let c5_2943 : Index := 5#32
  let c1536_2944 : Index := 1536#32
  ![v6794.toNat, 5, 1536]
def k0_off104 (i : grid0.Coords) : Fin 3 → Nat :=
  let arg0 : BitVec 32 := BitVec.ofNat 32 (i 0).val
  let v6860 : Index := Scalar.indexCast arg0
  let c5_2972 : Index := 5#32
  let c1664_2973 : Index := 1664#32
  ![v6860.toNat, 5, 1664]
def k0_off105 (i : grid0.Coords) : Fin 3 → Nat :=
  let arg0 : BitVec 32 := BitVec.ofNat 32 (i 0).val
  let v6926 : Index := Scalar.indexCast arg0
  let c5_3001 : Index := 5#32
  let c1792_3002 : Index := 1792#32
  ![v6926.toNat, 5, 1792]
def k0_off106 (i : grid0.Coords) : Fin 3 → Nat :=
  let arg0 : BitVec 32 := BitVec.ofNat 32 (i 0).val
  let v6992 : Index := Scalar.indexCast arg0
  let c5_3030 : Index := 5#32
  let c1920_3031 : Index := 1920#32
  ![v6992.toNat, 5, 1920]
def k0_off107 (i : grid0.Coords) : Fin 3 → Nat :=
  let arg0 : BitVec 32 := BitVec.ofNat 32 (i 0).val
  let v7058 : Index := Scalar.indexCast arg0
  let c5_3059 : Index := 5#32
  let c2048_3060 : Index := 2048#32
  ![v7058.toNat, 5, 2048]
def k0_off108 (i : grid0.Coords) : Fin 3 → Nat :=
  let arg0 : BitVec 32 := BitVec.ofNat 32 (i 0).val
  let v7124 : Index := Scalar.indexCast arg0
  let c5_3088 : Index := 5#32
  let c2176_3089 : Index := 2176#32
  ![v7124.toNat, 5, 2176]
def k0_off109 (i : grid0.Coords) : Fin 3 → Nat :=
  let arg0 : BitVec 32 := BitVec.ofNat 32 (i 0).val
  let v7190 : Index := Scalar.indexCast arg0
  let c6_3117 : Index := 6#32
  let c0_3118 : Index := 0#32
  ![v7190.toNat, 6, 0]
def k0_off110 (i : grid0.Coords) : Fin 3 → Nat :=
  let arg0 : BitVec 32 := BitVec.ofNat 32 (i 0).val
  let v7256 : Index := Scalar.indexCast arg0
  let c6_3146 : Index := 6#32
  let c128_3147 : Index := 128#32
  ![v7256.toNat, 6, 128]
def k0_off111 (i : grid0.Coords) : Fin 3 → Nat :=
  let arg0 : BitVec 32 := BitVec.ofNat 32 (i 0).val
  let v7322 : Index := Scalar.indexCast arg0
  let c6_3175 : Index := 6#32
  let c256_3176 : Index := 256#32
  ![v7322.toNat, 6, 256]
def k0_off112 (i : grid0.Coords) : Fin 3 → Nat :=
  let arg0 : BitVec 32 := BitVec.ofNat 32 (i 0).val
  let v7388 : Index := Scalar.indexCast arg0
  let c6_3204 : Index := 6#32
  let c384_3205 : Index := 384#32
  ![v7388.toNat, 6, 384]
def k0_off113 (i : grid0.Coords) : Fin 3 → Nat :=
  let arg0 : BitVec 32 := BitVec.ofNat 32 (i 0).val
  let v7454 : Index := Scalar.indexCast arg0
  let c6_3233 : Index := 6#32
  let c512_3234 : Index := 512#32
  ![v7454.toNat, 6, 512]
def k0_off114 (i : grid0.Coords) : Fin 3 → Nat :=
  let arg0 : BitVec 32 := BitVec.ofNat 32 (i 0).val
  let v7520 : Index := Scalar.indexCast arg0
  let c6_3262 : Index := 6#32
  let c640_3263 : Index := 640#32
  ![v7520.toNat, 6, 640]
def k0_off115 (i : grid0.Coords) : Fin 3 → Nat :=
  let arg0 : BitVec 32 := BitVec.ofNat 32 (i 0).val
  let v7586 : Index := Scalar.indexCast arg0
  let c6_3291 : Index := 6#32
  let c768_3292 : Index := 768#32
  ![v7586.toNat, 6, 768]
def k0_off116 (i : grid0.Coords) : Fin 3 → Nat :=
  let arg0 : BitVec 32 := BitVec.ofNat 32 (i 0).val
  let v7652 : Index := Scalar.indexCast arg0
  let c6_3320 : Index := 6#32
  let c896_3321 : Index := 896#32
  ![v7652.toNat, 6, 896]
def k0_off117 (i : grid0.Coords) : Fin 3 → Nat :=
  let arg0 : BitVec 32 := BitVec.ofNat 32 (i 0).val
  let v7718 : Index := Scalar.indexCast arg0
  let c6_3349 : Index := 6#32
  let c1024_3350 : Index := 1024#32
  ![v7718.toNat, 6, 1024]
def k0_off118 (i : grid0.Coords) : Fin 3 → Nat :=
  let arg0 : BitVec 32 := BitVec.ofNat 32 (i 0).val
  let v7784 : Index := Scalar.indexCast arg0
  let c6_3378 : Index := 6#32
  let c1152_3379 : Index := 1152#32
  ![v7784.toNat, 6, 1152]
def k0_off119 (i : grid0.Coords) : Fin 3 → Nat :=
  let arg0 : BitVec 32 := BitVec.ofNat 32 (i 0).val
  let v7850 : Index := Scalar.indexCast arg0
  let c6_3407 : Index := 6#32
  let c1280_3408 : Index := 1280#32
  ![v7850.toNat, 6, 1280]
def k0_off120 (i : grid0.Coords) : Fin 3 → Nat :=
  let arg0 : BitVec 32 := BitVec.ofNat 32 (i 0).val
  let v7916 : Index := Scalar.indexCast arg0
  let c6_3436 : Index := 6#32
  let c1408_3437 : Index := 1408#32
  ![v7916.toNat, 6, 1408]
def k0_off121 (i : grid0.Coords) : Fin 3 → Nat :=
  let arg0 : BitVec 32 := BitVec.ofNat 32 (i 0).val
  let v7982 : Index := Scalar.indexCast arg0
  let c6_3465 : Index := 6#32
  let c1536_3466 : Index := 1536#32
  ![v7982.toNat, 6, 1536]
def k0_off122 (i : grid0.Coords) : Fin 3 → Nat :=
  let arg0 : BitVec 32 := BitVec.ofNat 32 (i 0).val
  let v8048 : Index := Scalar.indexCast arg0
  let c6_3494 : Index := 6#32
  let c1664_3495 : Index := 1664#32
  ![v8048.toNat, 6, 1664]
def k0_off123 (i : grid0.Coords) : Fin 3 → Nat :=
  let arg0 : BitVec 32 := BitVec.ofNat 32 (i 0).val
  let v8114 : Index := Scalar.indexCast arg0
  let c6_3523 : Index := 6#32
  let c1792_3524 : Index := 1792#32
  ![v8114.toNat, 6, 1792]
def k0_off124 (i : grid0.Coords) : Fin 3 → Nat :=
  let arg0 : BitVec 32 := BitVec.ofNat 32 (i 0).val
  let v8180 : Index := Scalar.indexCast arg0
  let c6_3552 : Index := 6#32
  let c1920_3553 : Index := 1920#32
  ![v8180.toNat, 6, 1920]
def k0_off125 (i : grid0.Coords) : Fin 3 → Nat :=
  let arg0 : BitVec 32 := BitVec.ofNat 32 (i 0).val
  let v8246 : Index := Scalar.indexCast arg0
  let c6_3581 : Index := 6#32
  let c2048_3582 : Index := 2048#32
  ![v8246.toNat, 6, 2048]
def k0_off126 (i : grid0.Coords) : Fin 3 → Nat :=
  let arg0 : BitVec 32 := BitVec.ofNat 32 (i 0).val
  let v8312 : Index := Scalar.indexCast arg0
  let c6_3610 : Index := 6#32
  let c2176_3611 : Index := 2176#32
  ![v8312.toNat, 6, 2176]
def k0_off127 (i : grid0.Coords) : Fin 3 → Nat :=
  let arg0 : BitVec 32 := BitVec.ofNat 32 (i 0).val
  let v8378 : Index := Scalar.indexCast arg0
  let c7_3639 : Index := 7#32
  let c0_3640 : Index := 0#32
  ![v8378.toNat, 7, 0]
def k0_off128 (i : grid0.Coords) : Fin 3 → Nat :=
  let arg0 : BitVec 32 := BitVec.ofNat 32 (i 0).val
  let v8444 : Index := Scalar.indexCast arg0
  let c7_3668 : Index := 7#32
  let c128_3669 : Index := 128#32
  ![v8444.toNat, 7, 128]
def k0_off129 (i : grid0.Coords) : Fin 3 → Nat :=
  let arg0 : BitVec 32 := BitVec.ofNat 32 (i 0).val
  let v8510 : Index := Scalar.indexCast arg0
  let c7_3697 : Index := 7#32
  let c256_3698 : Index := 256#32
  ![v8510.toNat, 7, 256]
def k0_off130 (i : grid0.Coords) : Fin 3 → Nat :=
  let arg0 : BitVec 32 := BitVec.ofNat 32 (i 0).val
  let v8576 : Index := Scalar.indexCast arg0
  let c7_3726 : Index := 7#32
  let c384_3727 : Index := 384#32
  ![v8576.toNat, 7, 384]
def k0_off131 (i : grid0.Coords) : Fin 3 → Nat :=
  let arg0 : BitVec 32 := BitVec.ofNat 32 (i 0).val
  let v8642 : Index := Scalar.indexCast arg0
  let c7_3755 : Index := 7#32
  let c512_3756 : Index := 512#32
  ![v8642.toNat, 7, 512]
def k0_off132 (i : grid0.Coords) : Fin 3 → Nat :=
  let arg0 : BitVec 32 := BitVec.ofNat 32 (i 0).val
  let v8708 : Index := Scalar.indexCast arg0
  let c7_3784 : Index := 7#32
  let c640_3785 : Index := 640#32
  ![v8708.toNat, 7, 640]
def k0_off133 (i : grid0.Coords) : Fin 3 → Nat :=
  let arg0 : BitVec 32 := BitVec.ofNat 32 (i 0).val
  let v8774 : Index := Scalar.indexCast arg0
  let c7_3813 : Index := 7#32
  let c768_3814 : Index := 768#32
  ![v8774.toNat, 7, 768]
def k0_off134 (i : grid0.Coords) : Fin 3 → Nat :=
  let arg0 : BitVec 32 := BitVec.ofNat 32 (i 0).val
  let v8840 : Index := Scalar.indexCast arg0
  let c7_3842 : Index := 7#32
  let c896_3843 : Index := 896#32
  ![v8840.toNat, 7, 896]
def k0_off135 (i : grid0.Coords) : Fin 3 → Nat :=
  let arg0 : BitVec 32 := BitVec.ofNat 32 (i 0).val
  let v8906 : Index := Scalar.indexCast arg0
  let c7_3871 : Index := 7#32
  let c1024_3872 : Index := 1024#32
  ![v8906.toNat, 7, 1024]
def k0_off136 (i : grid0.Coords) : Fin 3 → Nat :=
  let arg0 : BitVec 32 := BitVec.ofNat 32 (i 0).val
  let v8972 : Index := Scalar.indexCast arg0
  let c7_3900 : Index := 7#32
  let c1152_3901 : Index := 1152#32
  ![v8972.toNat, 7, 1152]
def k0_off137 (i : grid0.Coords) : Fin 3 → Nat :=
  let arg0 : BitVec 32 := BitVec.ofNat 32 (i 0).val
  let v9038 : Index := Scalar.indexCast arg0
  let c7_3929 : Index := 7#32
  let c1280_3930 : Index := 1280#32
  ![v9038.toNat, 7, 1280]
def k0_off138 (i : grid0.Coords) : Fin 3 → Nat :=
  let arg0 : BitVec 32 := BitVec.ofNat 32 (i 0).val
  let v9104 : Index := Scalar.indexCast arg0
  let c7_3958 : Index := 7#32
  let c1408_3959 : Index := 1408#32
  ![v9104.toNat, 7, 1408]
def k0_off139 (i : grid0.Coords) : Fin 3 → Nat :=
  let arg0 : BitVec 32 := BitVec.ofNat 32 (i 0).val
  let v9170 : Index := Scalar.indexCast arg0
  let c7_3987 : Index := 7#32
  let c1536_3988 : Index := 1536#32
  ![v9170.toNat, 7, 1536]
def k0_off140 (i : grid0.Coords) : Fin 3 → Nat :=
  let arg0 : BitVec 32 := BitVec.ofNat 32 (i 0).val
  let v9236 : Index := Scalar.indexCast arg0
  let c7_4016 : Index := 7#32
  let c1664_4017 : Index := 1664#32
  ![v9236.toNat, 7, 1664]
def k0_off141 (i : grid0.Coords) : Fin 3 → Nat :=
  let arg0 : BitVec 32 := BitVec.ofNat 32 (i 0).val
  let v9302 : Index := Scalar.indexCast arg0
  let c7_4045 : Index := 7#32
  let c1792_4046 : Index := 1792#32
  ![v9302.toNat, 7, 1792]
def k0_off142 (i : grid0.Coords) : Fin 3 → Nat :=
  let arg0 : BitVec 32 := BitVec.ofNat 32 (i 0).val
  let v9368 : Index := Scalar.indexCast arg0
  let c7_4074 : Index := 7#32
  let c1920_4075 : Index := 1920#32
  ![v9368.toNat, 7, 1920]
def k0_off143 (i : grid0.Coords) : Fin 3 → Nat :=
  let arg0 : BitVec 32 := BitVec.ofNat 32 (i 0).val
  let v9434 : Index := Scalar.indexCast arg0
  let c7_4103 : Index := 7#32
  let c2048_4104 : Index := 2048#32
  ![v9434.toNat, 7, 2048]
def k0_off144 (i : grid0.Coords) : Fin 3 → Nat :=
  let arg0 : BitVec 32 := BitVec.ofNat 32 (i 0).val
  let v9500 : Index := Scalar.indexCast arg0
  let c7_4132 : Index := 7#32
  let c2176_4133 : Index := 2176#32
  ![v9500.toNat, 7, 2176]
def k0_cond1 (i : grid0.Coords) : BitVec 1 :=
  let arg0 : BitVec 32 := BitVec.ofNat 32 (i 0).val
  let c11_i32 : BitVec 32 := 11#32
  let v9504 : BitVec 1 := Scalar.cmpi .eq arg0 c11_i32
  let v9505 : BitVec 32 := Scalar.extui v9504
  let c0_i32_4134 : BitVec 32 := 0#32
  let v9506 : BitVec 1 := Scalar.cmpi .ne v9505 c0_i32_4134
  v9506

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2304 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x18 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2304x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2304x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2304x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== XReferenceIdeal.lean ====
abbrev S12288x2304 : Shape := ⟨2, ![12288, 2304]⟩
abbrev S12288x18 : Shape := ⟨2, ![12288, 18]⟩
abbrev S2304x12288 : Shape := ⟨2, ![2304, 12288]⟩
abbrev S2304x96 : Shape := ⟨2, ![2304, 96]⟩
abbrev S12288x18x128 : Shape := ⟨3, ![12288, 18, 128]⟩
abbrev S12288x18x1 : Shape := ⟨3, ![12288, 18, 1]⟩
abbrev S96x128x2304 : Shape := ⟨3, ![96, 128, 2304]⟩
abbrev S96x2304 : Shape := ⟨2, ![96, 2304]⟩
abbrev S96x1x2304 : Shape := ⟨3, ![96, 1, 2304]⟩

abbrev nBuf : Space → Nat
  | .hbm => 5
  | .vmem => 5
  | .smem => 0
  | _ => 0

abbrev bufTy : (tb : Table) → Fin (tcTables nBuf tb) → BufTy
  | .hbm, ⟨0, _⟩ => ⟨S12288x2304, .fp8e4m3⟩
  | .hbm, ⟨1, _⟩ => ⟨S12288x18, .f32⟩
  | .hbm, ⟨2, _⟩ => ⟨S2304x12288, .fp8e4m3⟩
  | .hbm, ⟨3, _⟩ => ⟨S2304x96, .f32⟩
  | .hbm, ⟨4, _⟩ => ⟨S2304x12288, .bf16⟩
  | .local _ .vmem, ⟨0, _⟩ => ⟨S12288x2304, .fp8e4m3⟩
  | .local _ .vmem, ⟨1, _⟩ => ⟨S12288x18, .f32⟩
  | .local _ .vmem, ⟨2, _⟩ => ⟨S2304x12288, .fp8e4m3⟩
  | .local _ .vmem, ⟨3, _⟩ => ⟨S2304x96, .f32⟩
  | .local _ .vmem, ⟨4, _⟩ => ⟨S2304x12288, .bf16⟩
  | _, _ => ⟨S12288x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S12288x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x18 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x12288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2304x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x12288 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Site.lean ====
/- One site of the kernel body, a 128 × 256 tile of the gradient block, as named functions of the tile; and the
   stores of the whole body as one list over the 32 sites. -/
module

public import proofs.«01_k».proof.Proof.Gen.KernelIdeal.Value

@[expose] public section

set_option maxRecDepth 16384

noncomputable section

namespace Cert.Dw

open Idealize.ShloMosaic Idealize.ShloMosaic.TcCoe
open Cert.KernelIdeal Cert.KernelIdeal.Gen

variable {F : FTy → Type} [FloatOps F]

/-- A tile's column maxima of the magnitude, divided by 448 as the kernel does it. -/
def siteT (P : Vec F S128x256 .bf16) : FVec F S1x256 .f32 :=
  mulf (extf .f32 (shapeCast S1x256 (multiReduction .maximumf [0] S256 (absf P) 0xFF80#16 reduces_S128x256_S256 (.inr rfl) rfl)
    shapeCasts_S256_S1x256) bitsLt_bf16_f32) (broadcast S1x256 (FloatOps.ofBits .f32 0x3B124925#32))

/-- How many of the 256 powers of two lie above each column's `t`. -/
def aboveE (t : FVec F S1x256 .f32) : IVec S1x256 32 :=
  shapeCast S1x256 (multiReductionI .add [0] S256 (select (cmpf .ogt (bitcastToFloat (F := F) .f32 (shli (iota .tc S256x256 32 [0] iota_S256x256_d0_w32)
    (broadcast S256x256 23#32))) (broadcastTo S256x256 t broadcasts_S1x256_S256x256)) (broadcast S256x256 1#32) (broadcast S256x256 0#32))
    0#32 reduces_S256x256_S256 rfl) shapeCasts_S256_S1x256

/-- The exponent field of each column's `t`, by the count; 255 from 2 ^ 120 on. -/
def fieldE (t : FVec F S1x256 .f32) : IVec S1x256 32 :=
  select (cmpf .oge t (broadcast S1x256 (FloatOps.ofBits .f32 0x7B800000#32))) (broadcast S1x256 255#32)
    (subi (broadcast S1x256 255#32) (aboveE t))

/-- The scale's exponent from the exponent field: the field less 126, or zero if `t` is zero or has the field 255. -/
def expE (t : FVec F S1x256 .f32) : IVec S1x256 32 :=
  select (andi (cmpf .one t (broadcast S1x256 (FloatOps.ofBits .f32 0x00000000#32))) (cmpi .ne (fieldE t) (broadcast S1x256 255#32)))
    (subi (fieldE t) (broadcast S1x256 126#32)) (broadcast S1x256 0#32)

/-- The scales of a tile's columns. -/
def siteScale (P : Vec F S128x256 .bf16) : FVec F S1x256 .f32 :=
  bitcastToFloat .f32 (shli (addi (broadcast S1x256 127#32) (expE (siteT P))) (broadcast S1x256 23#32))

/-- The reciprocals of the scales of a tile's columns. -/
def siteInv (P : Vec F S128x256 .bf16) : FVec F S1x256 .f32 :=
  bitcastToFloat .f32 (shli (subi (broadcast S1x256 127#32) (expE (siteT P))) (broadcast S1x256 23#32))

/-- The codes of a tile. -/
def siteCodes (P : Vec F S128x256 .bf16) : FVec F S128x256 .fp8e4m3 :=
  truncf .fp8e4m3 (minimumf (broadcast S128x256 (FloatOps.ofBits .bf16 0x43E0#16))
    (maximumf (broadcast S128x256 (FloatOps.ofBits .bf16 0xC3E0#16))
      (mulf P (broadcastTo S128x256 (truncf .bf16 (siteInv P) bitsLt_bf16_f32) broadcasts_S1x256_S128x256))))
    bitsLt_fp8e4m3_bf16

/-- A tile put back: its codes times the scales. -/
def siteBack (P : Vec F S128x256 .bf16) : FVec F S128x256 .bf16 :=
  shapeCast S128x256 (mulf (extf .bf16 (siteCodes P) bitsLt_fp8e4m3_bf16)
    (broadcastTo S128x256 (truncf .bf16 (siteScale P) bitsLt_bf16_f32) broadcasts_S1x256_S128x256)) shapeCasts_S128x256_S128x256

/-- The tile of site `(g, q)` lies in the block. -/
theorem inbTile (g : Fin 8) (q : Fin 4) : ∀ a, (![128 * g.val, 256 * q.val] : Fin 2 → Nat) a + S128x256.size a ≤ S1024x1024.size a := by
  revert g q; decide

/-- The row of scales of site `(g, q)` lies in the block of scales. -/
theorem inbRow (g : Fin 8) (q : Fin 4) : ∀ a, (![g.val, 256 * q.val] : Fin 2 → Nat) a + S1x256.size a ≤ S8x1024.size a := by
  revert g q; decide

/-- The rectangle of site `(g, q)`'s tile. -/
abbrev tileR (g : Fin 8) (q : Fin 4) : Rect S1024x1024 := Rect.unit ![128 * g.val, 256 * q.val] S128x256.size (inbTile g q)

/-- The rectangle of site `(g, q)`'s row of scales. -/
abbrev rowR (g : Fin 8) (q : Fin 4) : Rect S8x1024 := Rect.unit ![g.val, 256 * q.val] S1x256.size (inbRow g q)

/-- The sites, the last one the body comes to first. -/
def sites : List (Fin 8 × Fin 4) :=
  [(7, 3), (7, 2), (7, 1), (7, 0), (6, 3), (6, 2), (6, 1), (6, 0), (5, 3), (5, 2), (5, 1), (5, 0), (4, 3), (4, 2), (4, 1), (4, 0),
   (3, 3), (3, 2), (3, 1), (3, 0), (2, 3), (2, 2), (2, 1), (2, 0), (1, 3), (1, 2), (1, 1), (1, 0), (0, 3), (0, 2), (0, 1), (0, 0)]

variable (X : (g : Fin 8) → (q : Fin 4) → Vec F S128x256 .bf16)

/-- The stores of the codes: one tile a site. -/
def codesL : List (View.Piece (Elt F) S1024x1024 .fp8e4m3) := sites.map fun s => ⟨tileR s.1 s.2, siteCodes (X s.1 s.2)⟩

/-- The stores of the scales: one row a site. -/
def scalesL : List (View.Piece (Elt F) S8x1024 .f32) := sites.map fun s => ⟨rowR s.1 s.2, siteScale (X s.1 s.2)⟩

/-- The stores of the tiles put back: one tile a site. -/
def backL : List (View.Piece (Elt F) S1024x1024 .bf16) := sites.map fun s => ⟨tileR s.1 s.2, siteBack (X s.1 s.2)⟩

section runs

variable (c : Dev nD) (i : grid0.Coords) (arg2 : Memref sig .tc .vmem S2304x1024 .bf16) (harg2 : arg2.IsWhole)
  (arg3 : Memref sig .tc .vmem S1024x1024 .bf16) (harg3 : arg3.IsWhole) (arg4 : Memref sig .tc .vmem S2304x1024 .f32) (harg4 : arg4.IsWhole)
  (arg5 : Memref sig .tc .vmem S1024x1024 .fp8e4m3) (harg5 : arg5.IsWhole) (arg6 : Memref sig .tc .vmem S8x1024 .f32) (harg6 : arg6.IsWhole)
  (arg7 : Memref sig .tc .vmem S1024x1024 .bf16) (harg7 : arg7.IsWhole)
  (x0 : Vec F S2304x1024 .bf16) (x1 : Vec F S1024x1024 .bf16)

/-- The tiles as the body loads them from the staged block. -/
def tiles (g : Fin 8) (q : Fin 4) : Vec F S128x256 .bf16 :=
  View.readAt (Elt F) arg3.view (tileR g q).toLoadRect (harg3.unread x1)

/-- The stores of the codes at a first visit of a column block. -/
theorem codes_A (hc0 : cond0_0 i) :
    (kernelRun0_A c i arg2 harg2 arg3 harg3 arg4 harg4 arg5 harg5 arg6 harg6 arg7 harg7 hc0 x0 x1).2.1 = codesL (tiles arg3 harg3 x1) := rfl

/-- The stores of the scales at a first visit of a column block. -/
theorem scales_A (hc0 : cond0_0 i) :
    (kernelRun0_A c i arg2 harg2 arg3 harg3 arg4 harg4 arg5 harg5 arg6 harg6 arg7 harg7 hc0 x0 x1).2.2.1 = scalesL (tiles arg3 harg3 x1) := rfl

/-- The stores of the tiles put back at a first visit of a column block. -/
theorem back_A : kernelRun0_A.sl.HS0_32 c arg3 harg3 x1 = backL (tiles arg3 harg3 x1) := rfl

/-- The stores of the codes at a later visit. -/
theorem codes_B (hc0 : ¬ cond0_0 i) (xo2 : Vec F S2304x1024 .f32) :
    (kernelRun0_B c i arg2 harg2 arg3 harg3 arg4 harg4 arg5 harg5 arg6 harg6 arg7 harg7 hc0 x0 x1 xo2).2.1 = codesL (tiles arg3 harg3 x1) := rfl

/-- The stores of the scales at a later visit. -/
theorem scales_B (hc0 : ¬ cond0_0 i) (xo2 : Vec F S2304x1024 .f32) :
    (kernelRun0_B c i arg2 harg2 arg3 harg3 arg4 harg4 arg5 harg5 arg6 harg6 arg7 harg7 hc0 x0 x1 xo2).2.2.1 = scalesL (tiles arg3 harg3 x1) := rfl

/-- The stores of the tiles put back at a later visit. -/
theorem back_B : kernelRun0_B.sl.HS0_32 c arg3 harg3 x1 = backL (tiles arg3 harg3 x1) := rfl

end runs

end Cert.Dw
-- ==== Proof.Scale.lean ====
/- The scale of one group, as the kernel finds it (an exponent field found by counting powers of two) and as the reference states it
   (the floor of a base-two logarithm): the same number. -/
module

public import Idealize.ShloMosaic.PureOps.Ideal
public import Mathlib.Analysis.SpecialFunctions.Pow.Real
public import Mathlib.Data.BitVec

@[expose] public section

noncomputable section

namespace Cert.Scale

open Idealize.ShloMosaic

/-- The float whose exponent field is `b` and whose sign and fraction are zero. -/
abbrev pat (b : BitVec 32) : EReal := Ideal.ofBits .f32 (b <<< (23 : ℕ))

/-- The float 2 ^ 120. -/
abbrev big : EReal := Ideal.ofBits .f32 0x7B800000#32

/-- How many of the 256 patterns lie above `t`. -/
def above (t : EReal) : BitVec 32 := ∑ k : Fin 256, if t < pat (BitVec.ofNat 32 k.val) then 1#32 else 0#32

/-- The exponent field of `t`: 255 less the number of patterns above it, and 255 from 2 ^ 120 on. -/
def field (t : EReal) : BitVec 32 := if big ≤ t then 255#32 else 255#32 - above t

/-- The scale's exponent from the field. -/
def expo (t : EReal) : BitVec 32 := if t ≠ 0 ∧ field t ≠ 255#32 then field t - 126#32 else 0#32

/-- The scale as the kernel has it. -/
def scale (t : EReal) : EReal := pat (127#32 + expo t)

/-- The scale's reciprocal as the kernel has it. -/
def inv (t : EReal) : EReal := pat (127#32 - expo t)

/-- The float 1/448. -/
abbrev c448 : EReal := Ideal.ofBits .f32 0x3B124925#32

/-- The scale's exponent as the reference has it, of the group's maximum divided by 448. -/
def refE (t : EReal) : EReal :=
  if t = 0 ∨ big ≤ t then 0 else max (Ideal.liftRound Int.floor (Ideal.div (Ideal.log t) (Real.log 2 : ℝ)) + 1) (-126)

/-- Fields of a pattern `n <<< 23` with `n` below 256. -/
theorem pat_fields : ∀ n : Fin 256, ((BitVec.ofNat 32 n.val <<< (23 : ℕ)).extractLsb' (8 + 23) 1 == 1#1) = false
    ∧ ((BitVec.ofNat 32 n.val <<< (23 : ℕ)).extractLsb' 23 8).toNat = n.val
    ∧ ((BitVec.ofNat 32 n.val <<< (23 : ℕ)).extractLsb' 0 23).toNat = 0 := by
  decide +kernel

/-- A word with exponent field `n`, neither 0 nor 255, and fraction zero reads as a power of two. -/
theorem ieee_pow (w : BitVec 32) (n : ℕ) (hs : (w.extractLsb' (8 + 23) 1 == 1#1) = false) (he : (w.extractLsb' 23 8).toNat = n)
    (hf : (w.extractLsb' 0 23).toNat = 0) (h3 : n ≠ 255) (h4 : n ≠ 0) :
    Ideal.ieee 8 23 w = ((2 : ℝ) ^ ((n : ℤ) - 127) : ℝ) := by
  unfold Ideal.ieee
  simp only [hs, he, hf]
  rw [if_neg (show ¬ n = 2 ^ 8 - 1 from h3), if_neg h4, EReal.coe_eq_coe_iff]
  simp only [Bool.false_eq_true, if_false, one_mul, add_zero]
  push_cast
  rw [show (n : ℤ) - 127 = 23 + ((n : ℤ) - 127 - 23) by ring, zpow_add₀ (by norm_num : (2 : ℝ) ≠ 0)]
  norm_num

/-- The pattern with exponent field `n`, `1 ≤ n ≤ 254`, is a power of two. -/
theorem pat_pow {n : ℕ} (h1 : 1 ≤ n) (h2 : n ≤ 254) : pat (BitVec.ofNat 32 n) = ((2 : ℝ) ^ ((n : ℤ) - 127) : ℝ) :=
  ieee_pow _ n (pat_fields ⟨n, by omega⟩).1 (pat_fields ⟨n, by omega⟩).2.1 (pat_fields ⟨n, by omega⟩).2.2 (by omega) (by omega)

/-- The pattern with exponent field 255 is infinity. -/
theorem pat_top : pat (BitVec.ofNat 32 255) = ⊤ := by
  obtain ⟨hs, he, hf⟩ := pat_fields ⟨255, by omega⟩
  simp only at hs he hf
  simp only [pat, Ideal.ofBits, Ideal.ieee, hs, he, hf]
  norm_num

/-- The pattern with exponent field 0 is zero. -/
theorem pat_zero : pat (BitVec.ofNat 32 0) = 0 := by
  obtain ⟨hs, he, hf⟩ := pat_fields ⟨0, by omega⟩
  simp only at hs he hf
  simp only [pat, Ideal.ofBits, Ideal.ieee, hs, he, hf]
  norm_num

/-- 2 ^ 120 as a real. -/
theorem big_eq : big = ((2 ^ 120 : ℝ) : EReal) := by
  simp [big, Ideal.ofBits, Ideal.ieee, -EReal.coe_mul, -EReal.coe_pow]
  norm_num

/-- The patterns rise. -/
theorem pat_mono {n k : ℕ} (h : n ≤ k) (hk : k ≤ 255) : pat (BitVec.ofNat 32 n) ≤ pat (BitVec.ofNat 32 k) := by
  rcases Nat.eq_or_lt_of_le hk with rfl | hk'
  · rw [pat_top]; exact le_top
  · rcases Nat.eq_zero_or_pos n with rfl | hn
    · rw [pat_zero]
      rcases Nat.eq_zero_or_pos k with rfl | hk0
      · rw [pat_zero]
      · rw [pat_pow hk0 (by omega)]
        exact_mod_cast (by positivity : (0 : ℝ) ≤ (2 : ℝ) ^ ((k : ℤ) - 127))
    · rw [pat_pow hn (by omega), pat_pow (by omega) (by omega), EReal.coe_le_coe_iff]
      exact zpow_le_zpow_right₀ (by norm_num) (by omega)

/-- The count of the numbers above `n` among the first 256, as words. -/
theorem count_above : ∀ n : Fin 256, (∑ k : Fin 256, if n.val < k.val then 1#32 else 0#32) = 255#32 - BitVec.ofNat 32 n.val := by
  decide +kernel

/-- What the count finds: the field `n`, the last pattern not above `t`. -/
theorem field_spec {t : EReal} (h0 : 0 ≤ t) (h1 : t < big) : ∃ n : ℕ, field t = BitVec.ofNat 32 n ∧ n ≤ 246
    ∧ pat (BitVec.ofNat 32 n) ≤ t ∧ t < pat (BitVec.ofNat 32 (n + 1)) := by
  classical
  have hbig : big = pat (BitVec.ofNat 32 247) := by
    rw [big_eq, pat_pow (by norm_num) (by norm_num)]; norm_num
  have hex : ∃ n, t < pat (BitVec.ofNat 32 (n + 1)) := ⟨246, by rw [← hbig]; exact h1⟩
  obtain ⟨n, hn, hmin⟩ : ∃ n, t < pat (BitVec.ofNat 32 (n + 1)) ∧ ∀ k < n, ¬ t < pat (BitVec.ofNat 32 (k + 1)) :=
    ⟨Nat.find hex, Nat.find_spec hex, fun k hk => Nat.find_min hex hk⟩
  have hle : n ≤ 246 := by
    by_contra hgt
    exact hmin 246 (by omega) (by rw [← hbig]; exact h1)
  have hlo : pat (BitVec.ofNat 32 n) ≤ t := by
    rcases Nat.eq_zero_or_pos n with rfl | hp
    · rw [pat_zero]; exact h0
    · have := hmin (n - 1) (by omega)
      rw [Nat.sub_add_cancel hp] at this
      exact le_of_not_gt this
  refine ⟨n, ?_, hle, hlo, hn⟩
  rw [field, if_neg (not_le.mpr h1)]
  have hab : above t = 255#32 - BitVec.ofNat 32 n := by
    rw [← count_above ⟨n, by omega⟩, above]
    refine Finset.sum_congr rfl fun k _ => if_congr ?_ rfl rfl
    constructor
    · intro h
      by_contra hk
      exact absurd (lt_of_lt_of_le h ((pat_mono (not_lt.mp hk) (by omega)).trans hlo)) (lt_irrefl _)
    · intro h
      exact lt_of_lt_of_le hn (pat_mono (by show n + 1 ≤ k.val; exact h) (by omega))
  rw [hab]
  apply BitVec.eq_of_toNat_eq
  simp only [BitVec.toNat_sub, BitVec.toNat_ofNat]
  omega

/-- 1/448 as a real. -/
theorem c448_eq : c448 = ((9586981 / 2 ^ 32 : ℝ) : EReal) := by
  simp [c448, Ideal.ofBits, Ideal.ieee, -EReal.coe_mul]
  norm_num

/-- The kernel's scale and its reciprocal are the powers of two of the reference's exponent and of its negative; the
    exponent is a real. -/
theorem scale_inv_eq {t : EReal} (h0 : 0 ≤ t) : ∃ k : ℤ,
    refE t = ((k : ℝ) : EReal) ∧ scale t = ((2 : ℝ) ^ k : ℝ) ∧ inv t = ((2 : ℝ) ^ (-k) : ℝ) := by
  have hone := pat_pow (n := 127) (by norm_num) (by norm_num)
  by_cases hz : t = 0 ∨ big ≤ t
  · have he : expo t = 0#32 := by
      rcases hz with h | h
      · simp [expo, h]
      · have hf : field t = 255#32 := by rw [field, if_pos h]
        simp [expo, hf]
    refine ⟨0, by rw [refE, if_pos hz]; simp, ?_, ?_⟩
    · rw [scale, he]; simpa using hone
    · rw [inv, he]; simpa using hone
  · have hz0 : t ≠ 0 := fun h => hz (Or.inl h)
    have hlt : t < big := not_le.mp fun h => hz (Or.inr h)
    obtain ⟨n, hn, hle, hlo, hhi⟩ := field_spec h0 hlt
    obtain ⟨r, rfl⟩ : ∃ r : ℝ, t = (r : EReal) := by
      refine ⟨t.toReal, (EReal.coe_toReal ?_ ?_).symm⟩
      · intro h; rw [h] at hlt; exact absurd hlt (by simp)
      · intro h; rw [h] at h0; exact absurd h0 (by simp)
    have hrpos : 0 < r := by
      have h1 : (0 : ℝ) ≤ r := by exact_mod_cast h0
      exact lt_of_le_of_ne h1 fun h => hz0 (by rw [← h]; rfl)
    have hup : r < (2 : ℝ) ^ ((n : ℤ) - 126) := by
      rw [pat_pow (by omega) (by omega), EReal.coe_lt_coe_iff] at hhi
      have e : ((n + 1 : ℕ) : ℤ) - 127 = (n : ℤ) - 126 := by push_cast; ring
      rwa [e] at hhi
    have hf : field (r : EReal) ≠ 255#32 := by
      rw [hn]; intro h
      have := congrArg BitVec.toNat h
      simp only [BitVec.toNat_ofNat] at this
      omega
    have hexpo : expo (r : EReal) = BitVec.ofNat 32 n - 126#32 := by
      rw [expo, if_pos ⟨hz0, hf⟩, hn]
    have hs : (127#32 + (BitVec.ofNat 32 n - 126#32)) = BitVec.ofNat 32 (n + 1) := by
      apply BitVec.eq_of_toNat_eq
      simp only [BitVec.toNat_add, BitVec.toNat_sub, BitVec.toNat_ofNat]
      omega
    have hi : (127#32 - (BitVec.ofNat 32 n - 126#32)) = BitVec.ofNat 32 (253 - n) := by
      apply BitVec.eq_of_toNat_eq
      simp only [BitVec.toNat_sub, BitVec.toNat_ofNat]
      omega
    refine ⟨(n : ℤ) - 126, ?_, ?_, ?_⟩
    · rw [refE, if_neg hz, Ideal.log_coe, if_neg (not_le.mpr hrpos)]
      have hl2pos : 0 < Real.log 2 := Real.log_pos (by norm_num)
      have hl2 : Real.log 2 ≠ 0 := hl2pos.ne'
      have hdiv : Ideal.div (Real.log r : EReal) ((Real.log 2 : ℝ) : EReal) = ((Real.log r / Real.log 2 : ℝ) : EReal) := by
        rw [Ideal.div, if_neg (by intro h; exact hl2 (by exact_mod_cast h)), ← EReal.coe_inv, ← EReal.coe_mul,
          div_eq_mul_inv]
      rw [hdiv, Ideal.liftRound_coe]
      have h126 : (-126 : EReal) = ((-126 : ℝ) : EReal) := by rw [EReal.coe_neg]; rfl
      have hone : (1 : EReal) = ((1 : ℝ) : EReal) := rfl
      rw [h126, hone, ← EReal.coe_add, ← EReal.coe_strictMono.monotone.map_max]
      congr 1
      have hub : ⌊Real.log r / Real.log 2⌋ < (n : ℤ) - 126 := by
        rw [Int.floor_lt, div_lt_iff₀ hl2pos, ← Real.log_zpow]
        exact Real.log_lt_log hrpos hup
      by_cases hn0 : n = 0
      · subst hn0
        rw [max_eq_right]
        · push_cast; ring
        · have h2 : ⌊Real.log r / Real.log 2⌋ + 1 ≤ -126 := by push_cast at hub; omega
          exact_mod_cast h2
      · rw [pat_pow (by omega) (by omega), EReal.coe_le_coe_iff] at hlo
        have hlb : (n : ℤ) - 127 ≤ ⌊Real.log r / Real.log 2⌋ := by
          rw [Int.le_floor, le_div_iff₀ hl2pos, ← Real.log_zpow]
          exact Real.log_le_log (by positivity) hlo
        have hfl : ⌊Real.log r / Real.log 2⌋ = (n : ℤ) - 127 := by omega
        rw [hfl, max_eq_left]
        · push_cast; ring
        · push_cast
          have : (1 : ℝ) ≤ n := by exact_mod_cast (by omega : 1 ≤ n)
          linarith
    · rw [scale, hexpo, hs, pat_pow (by omega) (by omega)]
      congr 2
      push_cast; ring
    · rw [inv, hexpo, hi, pat_pow (by omega) (by omega)]
      congr 2
      have : ((253 - n : ℕ) : ℤ) = 253 - n := by omega
      rw [this]; ring

end Cert.Scale
-- ==== Proof.Layout.lean ====
/- Reshapes, a spread over a middle axis and a maximum over a middle axis, read at an index, at any extents. -/
module

public import Idealize.ShloMosaic.PureOps.Ideal.Laws
public import Idealize.ShloMosaic.Lib.Pipeline.Value
public import Idealize.ShloMosaic.Lib.Pointwise

@[expose] public section

noncomputable section

namespace Cert.Layout

open Idealize.ShloMosaic Idealize.ShloMosaic.TcCoe

variable {α : Type} {n a b c : ℕ}

/-- Rows split into groups of `b`: entry `(g, k, q)` is entry `(g b + k, q)`. -/
theorem split_apply (x : (⟨2, ![n, c]⟩ : Shape).Idx → α) (h : (⟨2, ![n, c]⟩ : Shape).ShapeCasts ⟨3, ![a, b, c]⟩)
    (g : Fin a) (k : Fin b) (q : Fin c) (hk : g.val * b + k.val < n) :
    shapeCast ⟨3, ![a, b, c]⟩ x h (ix3 g k q) = x (ix2 ⟨g.val * b + k.val, hk⟩ q) := by
  refine shapeCast_apply x h _ _ ?_
  rw [Shape.rowMajor_val_two, Shape.rowMajor_val_three]
  rfl

/-- Groups of rows joined: entry `(r, q)` is entry `(g, k, q)` where `r = g b + k`. -/
theorem join_apply (x : (⟨3, ![a, b, c]⟩ : Shape).Idx → α) (h : (⟨3, ![a, b, c]⟩ : Shape).ShapeCasts ⟨2, ![n, c]⟩)
    (r : Fin n) (q : Fin c) (g : Fin a) (k : Fin b) (hr : r.val = g.val * b + k.val) :
    shapeCast ⟨2, ![n, c]⟩ x h (ix2 r q) = x (ix3 g k q) := by
  refine shapeCast_apply x h _ _ ?_
  rw [Shape.rowMajor_val_two, Shape.rowMajor_val_three]
  show (g.val * b + k.val) * c + q.val = r.val * c + q.val
  rw [hr]

/-- One value per group, spread over its rows. -/
theorem spread_apply (x : (⟨2, ![a, c]⟩ : Shape).Idx → α) (h : (⟨2, ![a, c]⟩ : Shape).ShapeCasts ⟨3, ![a, 1, c]⟩)
    (hb : (⟨3, ![a, 1, c]⟩ : Shape).Broadcasts ⟨3, ![a, b, c]⟩) (g : Fin a) (k : Fin b) (q : Fin c) :
    broadcastTo ⟨3, ![a, b, c]⟩ (shapeCast ⟨3, ![a, 1, c]⟩ x h) hb (ix3 g k q) = x (ix2 g q) := by
  rw [broadcastTo_apply _ hb (ix3 g k q) (ix3 g 0 q)]
  · refine shapeCast_apply x h _ _ ?_
    rw [Shape.rowMajor_val_two, Shape.rowMajor_val_three]
    show g.val * c + q.val = (g.val * 1 + 0) * c + q.val
    rw [Nat.mul_one, Nat.add_zero]
  · intro e
    match e with
    | ⟨0, _⟩ =>
      show g.val = if a = 1 then 0 else g.val
      split
      · next h1 => have := g.isLt; omega
      · rfl
    | ⟨1, _⟩ => exact (if_pos rfl).symm
    | ⟨2, _⟩ =>
      show q.val = if c = 1 then 0 else q.val
      split
      · next h1 => have := q.isLt; omega
      · rfl

/-- The maximum over the rows of a group. -/
theorem groupMax_apply {φ : FTy} (x : FVec Ideal ⟨3, ![a, b, c]⟩ φ) (w : BitVec φ.bits)
    (h : (⟨3, ![a, b, c]⟩ : Shape).Reduces [1] ⟨2, ![a, c]⟩) (hφ) (hacc) (g : Fin a) (q : Fin c) :
    multiReduction .maximumf [1] ⟨2, ![a, c]⟩ x w h hφ hacc (ix2 g q)
      = (Finset.univ : Finset (Fin b)).fold max (Ideal.ofBits φ w) fun k => x (ix3 g k q) := by
  rw [Ideal.multiReduction_maximumf_single]
  refine congrArg (fun f : Fin b → EReal => (Finset.univ : Finset (Fin b)).fold max (Ideal.ofBits φ w) f) (funext fun k => ?_)
  refine congrArg x (funext fun e => Fin.ext ?_)
  match e with
  | ⟨0, _⟩ => rfl
  | ⟨1, _⟩ => rfl
  | ⟨2, _⟩ => rfl

end Cert.Layout
-- ==== Proof.Group.lean ====
/- A group of 128 values: its scale and its codes, and the counting, the exponent and the maximum read at an index, at any number of
   columns. -/
module

public import proofs.«01_k».proof.Proof.Scale
public import proofs.«01_k».proof.Proof.Layout
public import Idealize.ShloMosaic.Lib.WordSum

@[expose] public section

noncomputable section

namespace Cert.Group

open Idealize.ShloMosaic Idealize.ShloMosaic.TcCoe

/-- The greatest magnitude of a group of 128 values. -/
def cmax (v : Fin 128 → EReal) : EReal := (Finset.univ : Finset (Fin 128)).fold max ⊥ fun k => max (v k) (-(v k))

/-- The scale of a group. -/
def gScale (v : Fin 128 → EReal) : EReal := Ideal.exp2 (Scale.refE (cmax v * Scale.c448))

/-- The code of the value `x` of a group. -/
def gCode (v : Fin 128 → EReal) (x : EReal) : EReal :=
  min ((448 : ℝ) : EReal) (max ((-448 : ℝ) : EReal) (x * Ideal.exp2 (0 - Scale.refE (cmax v * Scale.c448))))

theorem lim_bf16 : Ideal.ofBits .bf16 0x43E0#16 = ((448 : ℝ) : EReal) := by
  simp [Ideal.ofBits, Ideal.ieee, -EReal.coe_mul]; norm_num
theorem nlim_bf16 : Ideal.ofBits .bf16 0xC3E0#16 = ((-448 : ℝ) : EReal) := by
  simp [Ideal.ofBits, Ideal.ieee, -EReal.coe_mul]; norm_num
theorem lim_f32 : Ideal.ofBits .f32 0x43E00000#32 = ((448 : ℝ) : EReal) := by
  simp [Ideal.ofBits, Ideal.ieee, -EReal.coe_mul]; norm_num
theorem nlim_f32 : Ideal.ofBits .f32 0xC3E00000#32 = ((-448 : ℝ) : EReal) := by
  simp [Ideal.ofBits, Ideal.ieee, -EReal.coe_mul]; norm_num
theorem bot_bf16 : Ideal.ofBits .bf16 0xFF80#16 = ⊥ := by
  simp [Ideal.ofBits, Ideal.ieee, -EReal.coe_mul]
theorem bot_f32 : Ideal.ofBits .f32 0xFF800000#32 = ⊥ := by
  simp [Ideal.ofBits, Ideal.ieee, -EReal.coe_mul]
theorem zero_f32 : Ideal.ofBits .f32 0x00000000#32 = 0 := by
  simp [Ideal.ofBits, Ideal.ieee, -EReal.coe_mul]
theorem one_f32 : Ideal.ofBits .f32 0x3F800000#32 = 1 := by
  simp [Ideal.ofBits, Ideal.ieee, -EReal.coe_mul]; norm_num
theorem m126_f32 : Ideal.ofBits .f32 0xC2FC0000#32 = -126 := by
  rw [show (-126 : EReal) = ((-126 : ℝ) : EReal) by rw [EReal.coe_neg]; rfl]
  simp [Ideal.ofBits, Ideal.ieee, -EReal.coe_mul]; norm_num

theorem cmax_nonneg (v : Fin 128 → EReal) : 0 ≤ cmax v := by
  rw [cmax, Finset.le_fold_max]
  refine Or.inr ⟨0, Finset.mem_univ _, ?_⟩
  rcases le_total 0 (v 0) with h | h
  · exact le_max_of_le_left h
  · exact le_max_of_le_right (by simpa using h)

/-- The kernel's scale of a group and its reciprocal are the reference's. -/
theorem group_eq (v : Fin 128 → EReal) :
    Scale.scale (cmax v * Scale.c448) = gScale v
      ∧ Scale.inv (cmax v * Scale.c448) = Ideal.exp2 (0 - Scale.refE (cmax v * Scale.c448)) := by
  have hge : 0 ≤ cmax v * Scale.c448 := by
    refine EReal.mul_nonneg (cmax_nonneg v) ?_
    rw [Scale.c448_eq]
    exact_mod_cast (by norm_num : (0 : ℝ) ≤ 9586981 / 2 ^ 32)
  obtain ⟨k, h1, h2, h3⟩ := Scale.scale_inv_eq hge
  rw [gScale, h1, h2, h3, Ideal.exp2_coe, zero_sub, ← EReal.coe_neg, Ideal.exp2_coe]
  refine ⟨?_, ?_⟩
  · rw [show Real.rpow 2 (k : ℝ) = (2 : ℝ) ^ (k : ℝ) from rfl, Real.rpow_intCast]
  · rw [show Real.rpow 2 (-(k : ℝ)) = (2 : ℝ) ^ (-(k : ℝ)) from rfl, ← Int.cast_neg, Real.rpow_intCast]

variable {n : ℕ}

/-- The sum of words down a column. -/
theorem count_apply (y : IVec ⟨2, ![256, n]⟩ 32) (hr : (⟨2, ![256, n]⟩ : Shape).Reduces [0] ⟨1, ![n]⟩)
    (hacc : (0#32 : BitVec 32) = IKind.add.neutral) (hs : (⟨1, ![n]⟩ : Shape).ShapeCasts ⟨2, ![1, n]⟩) (l : Fin n) :
    shapeCast ⟨2, ![1, n]⟩ (multiReductionI .add [0] ⟨1, ![n]⟩ y 0#32 hr hacc) hs (ix2 0 l) = ∑ k : Fin 256, y (ix2 k l) := by
  rw [shapeCast_apply _ hs (ix2 0 l) (ix1 l) (by
    rw [Shape.rowMajor_val_one, Shape.rowMajor_val_two]; show l.val = 0 * n + l.val; omega)]
  rw [multiReductionI_eq_reduceFold]
  show reduceFold hr (· + ·) (0#32 : BitVec 32) y _ = _
  rw [reduceFold_add_eq_sum, show (0#32 : BitVec 32) = 0 from rfl, zero_add, hr.sum_filter_drop_single]
  refine Finset.sum_congr rfl fun k _ => congrArg y (funext fun e => Fin.ext ?_)
  match e with
  | ⟨0, _⟩ => rfl
  | ⟨1, _⟩ => rfl

/-- The powers of two the kernel counts: row `k` holds the float whose exponent field is `k`. -/
theorem power_apply (hi : (⟨2, ![256, n]⟩ : Shape).Iotas .tc 32 [0]) (k : Fin 256) (l : Fin n) :
    bitcastToFloat (F := Ideal) .f32 (shli (iota .tc ⟨2, ![256, n]⟩ 32 [0] hi) (broadcast ⟨2, ![256, n]⟩ 23#32)) (ix2 k l)
      = Scale.pat (BitVec.ofNat 32 k.val) := by
  have e : iota .tc ⟨2, ![256, n]⟩ 32 [0] hi (ix2 k l) = BitVec.ofNat 32 k.val := by
    show BitVec.ofNat 32 (0 * 256 + k.val) = _
    rw [Nat.zero_mul, Nat.zero_add]
  refine Eq.trans ?_ (congrArg Scale.pat e)
  rfl

/-- A row spread down a column. -/
theorem row_apply {α : Type} (t : (⟨2, ![1, n]⟩ : Shape).Idx → α) {a : ℕ} (hb : (⟨2, ![1, n]⟩ : Shape).Broadcasts ⟨2, ![a, n]⟩) (k : Fin a) (l : Fin n) :
    broadcastTo ⟨2, ![a, n]⟩ t hb (ix2 k l) = t (ix2 0 l) := by
  refine broadcastTo_apply t hb (ix2 k l) (ix2 0 l) fun e => ?_
  match e with
  | ⟨0, _⟩ => exact (if_pos rfl).symm
  | ⟨1, _⟩ =>
    show l.val = if n = 1 then 0 else l.val
    split
    · next h1 => have := l.isLt; omega
    · rfl

theorem select_apply' {α : Type} {s : Shape} (p : IVec s 1) (x y : s.Idx → α) (i : s.Idx) : select p x y i = if p i = 1#1 then x i else y i := rfl

theorem cmpf_apply' {s : Shape} (p : CmpFPredicate) (x y : FVec Ideal s .f32) (i : s.Idx) : cmpf p x y i = Ideal.cmp p (x i) (y i) := rfl

/-- The exponent field as the kernel counts it, read at a column. -/
theorem field_apply (t : FVec Ideal ⟨2, ![1, n]⟩ .f32) (hi : (⟨2, ![256, n]⟩ : Shape).Iotas .tc 32 [0])
    (hb : (⟨2, ![1, n]⟩ : Shape).Broadcasts ⟨2, ![256, n]⟩) (hr : (⟨2, ![256, n]⟩ : Shape).Reduces [0] ⟨1, ![n]⟩)
    (hacc : (0#32 : BitVec 32) = IKind.add.neutral) (hs : (⟨1, ![n]⟩ : Shape).ShapeCasts ⟨2, ![1, n]⟩) (l : Fin n) :
    select (cmpf .oge t (broadcast ⟨2, ![1, n]⟩ (Scalar.ofBits .f32 0x7B800000#32))) (broadcast ⟨2, ![1, n]⟩ 255#32)
      (subi (broadcast ⟨2, ![1, n]⟩ 255#32) (shapeCast ⟨2, ![1, n]⟩ (multiReductionI .add [0] ⟨1, ![n]⟩
        (select (cmpf .ogt (bitcastToFloat (F := Ideal) .f32 (shli (iota .tc ⟨2, ![256, n]⟩ 32 [0] hi) (broadcast ⟨2, ![256, n]⟩ 23#32)))
          (broadcastTo ⟨2, ![256, n]⟩ t hb)) (broadcast ⟨2, ![256, n]⟩ 1#32) (broadcast ⟨2, ![256, n]⟩ 0#32)) 0#32 hr hacc) hs)) (ix2 0 l)
      = Scale.field (t (ix2 0 l)) := by
  rw [select_apply', Scale.field, cmpf_apply']
  refine if_congr (Ideal.cmp_oge_eq_one _ _) rfl (congrArg (fun z => 255#32 - z) ?_)
  rw [count_apply, Scale.above]
  refine Finset.sum_congr rfl fun k _ => ?_
  rw [select_apply', cmpf_apply', power_apply, row_apply]
  refine if_congr ?_ rfl rfl
  rw [Ideal.cmp]
  by_cases h : t (ix2 0 l) < Scale.pat (BitVec.ofNat 32 k.val) <;> simp [h]

/-- The scale's exponent from the field, at any shape. -/
theorem expo_apply {s : Shape} (t : FVec Ideal s .f32) (f : IVec s 32) (i : s.Idx) (hf : f i = Scale.field (t i)) :
    select (andi (cmpf .one t (broadcast s (Scalar.ofBits .f32 0x00000000#32))) (cmpi .ne f (broadcast s 255#32)))
      (subi f (broadcast s 126#32)) (broadcast s 0#32) i = Scale.expo (t i) := by
  show Scalar.select (IntOp.andi (Ideal.cmp .one (t i) (Ideal.ofBits .f32 0x00000000#32)) (IntOp.cmpi .ne (f i) 255#32))
    (f i - 126#32) 0#32 = _
  rw [hf, zero_f32, Scale.expo, Scalar.select, IntOp.andi, Ideal.cmp, IntOp.cmpi]
  generalize Scale.field (t i) = f
  generalize t i = x
  by_cases h2 : f = 255#32
  · subst h2; by_cases h1 : x = 0 <;> simp [h1]
  · have h3 : (f != 255#32) = true := by simpa using h2
    simp only [h3]
    by_cases h1 : x = 0 <;> simp [h1, h2]

/-- The exponent of every group from its maximum over 448 as the reference states it, at any shape. -/
theorem expOf_apply {s : Shape} (L : Ideal .f32) (hL : L = ((Real.log 2 : ℝ) : EReal)) (t : FVec Ideal s .f32) (i : s.Idx) :
    select (ori (cmpf .oeq t (broadcast s (Scalar.ofBits .f32 0x00000000#32))) (cmpf .oge t (broadcast s (Scalar.ofBits .f32 0x7B800000#32))))
      (broadcast s (Scalar.ofBits .f32 0x00000000#32))
      (maximumf (addf (floor (divf (log t) (broadcast s L))) (broadcast s (Scalar.ofBits .f32 0x3F800000#32)))
        (broadcast s (Scalar.ofBits .f32 0xC2FC0000#32))) i = Scale.refE (t i) := by
  show Scalar.select (IntOp.ori (Ideal.cmp .oeq (t i) (Ideal.ofBits .f32 0x00000000#32)) (Ideal.cmp .oge (t i) Scale.big))
    (Ideal.ofBits .f32 0x00000000#32)
    (max (Ideal.liftRound Int.floor (Ideal.div (Ideal.log (t i)) L) + Ideal.ofBits .f32 0x3F800000#32)
      (Ideal.ofBits .f32 0xC2FC0000#32)) = _
  rw [hL, zero_f32, one_f32, m126_f32, Scale.refE, Scalar.select, IntOp.ori]
  refine if_congr ?_ rfl rfl
  rw [Ideal.cmp, Ideal.cmp]
  generalize t i = x
  rcases Classical.em (x = 0) with h | h <;> rcases Classical.em (Scale.big ≤ x) with h2 | h2
  · simp only [eq_true h, eq_true h2]; decide
  · simp only [eq_true h, eq_false h2]; decide
  · simp only [eq_false h, eq_true h2]; decide
  · simp only [eq_false h, eq_false h2]; decide

/-- The codes of an array of values from the array of their groups' reciprocals, at any shape. -/
theorem clip_apply {s : Shape} (x y : FVec Ideal s .f32) (i : s.Idx) :
    minimumf (broadcast s (Scalar.ofBits .f32 0x43E00000#32))
      (maximumf (broadcast s (Scalar.ofBits .f32 0xC3E00000#32)) (mulf x y)) i
      = min ((448 : ℝ) : EReal) (max ((-448 : ℝ) : EReal) (x i * y i)) := by
  show min (Ideal.ofBits .f32 0x43E00000#32) (max (Ideal.ofBits .f32 0xC3E00000#32) (x i * y i)) = _
  rw [lim_f32, nlim_f32]

/-- The reciprocal scale of every group, at any shape. -/
theorem invOf_apply {s : Shape} (e : FVec Ideal s .f32) (i : s.Idx) :
    exp2 (subf (broadcast s (Scalar.ofBits .f32 0x00000000#32)) e) i = Ideal.exp2 (0 - e i) := by
  show Ideal.exp2 (Ideal.ofBits .f32 0x00000000#32 - e i) = _
  rw [zero_f32]

theorem over448_apply {s : Shape} (M : FVec Ideal s .f32) (i : s.Idx) :
    mulf M (broadcast s (Scalar.ofBits .f32 0x3B124925#32)) i = M i * Scale.c448 := rfl

theorem absOf_apply {s : Shape} (x : FVec Ideal s .f32) (i : s.Idx) : absf x i = max (x i) (-(x i)) := rfl

theorem expTwo_apply {s : Shape} (x : FVec Ideal s .f32) (i : s.Idx) : exp2 x i = Ideal.exp2 (x i) := rfl

theorem narrow_apply {s : Shape} (x : FVec Ideal s .f32) (h) (i : s.Idx) : truncf (F := Ideal) .bf16 x h i = x i := rfl

theorem pat_add {s : Shape} (e : IVec s 32) (i : s.Idx) :
    bitcastToFloat (F := Ideal) .f32 (shli (addi (broadcast s 127#32) e) (broadcast s 23#32)) i = Scale.pat (127#32 + e i) := rfl

theorem pat_sub {s : Shape} (e : IVec s 32) (i : s.Idx) :
    bitcastToFloat (F := Ideal) .f32 (shli (subi (broadcast s 127#32) e) (broadcast s 23#32)) i = Scale.pat (127#32 - e i) := rfl

end Cert.Group
-- ==== Proof.Block.lean ====
/- What one site of the kernel computes, read at an index over the extended reals; what the reference's arrays hold at an
   index; and the two at the same values. -/
module

public import proofs.«01_k».proof.Proof.Site
public import proofs.«01_k».proof.Proof.Group
public import proofs.«01_k».proof.Proof.Gen.ReferenceIdeal.Value
public import Idealize.ShloMosaic.Lib.Pointwise

@[expose] public section

set_option maxRecDepth 16384

noncomputable section

namespace Cert.Dw

open Cert.Group

open Idealize.ShloMosaic Idealize.ShloMosaic.TcCoe
open Cert.KernelIdeal Cert.KernelIdeal.Gen

/-! ## One site -/

theorem fieldE_apply (t : FVec Ideal S1x256 .f32) (l : Fin 256) : fieldE t (ix2 0 l) = Scale.field (t (ix2 0 l)) := by
  rw [fieldE, aboveE]
  exact field_apply t _ _ _ _ _ l

theorem expE_apply (t : FVec Ideal S1x256 .f32) (l : Fin 256) : expE t (ix2 0 l) = Scale.expo (t (ix2 0 l)) := by
  rw [expE]
  exact expo_apply t _ _ (fieldE_apply t l)

/-- A tile's `t` at a column. -/
theorem siteT_apply (P : FVec Ideal S128x256 .bf16) (l : Fin 256) :
    siteT (F := Ideal) P (ix2 0 l) = cmax (fun k => P (ix2 k l)) * Scale.c448 := by
  pointwise [siteT]
  rw [bot_bf16]; rfl

theorem siteScale_apply (P : FVec Ideal S128x256 .bf16) (l : Fin 256) :
    siteScale (F := Ideal) P (ix2 0 l) = Scale.scale (cmax (fun k => P (ix2 k l)) * Scale.c448) := by
  rw [siteScale, pat_add, expE_apply, siteT_apply]; rfl

theorem siteInv_apply (P : FVec Ideal S128x256 .bf16) (l : Fin 256) :
    siteInv (F := Ideal) P (ix2 0 l) = Scale.inv (cmax (fun k => P (ix2 k l)) * Scale.c448) := by
  rw [siteInv, pat_sub, expE_apply, siteT_apply]; rfl

variable (P : FVec Ideal S128x256 .bf16) (k : Fin 128) (l : Fin 256)

/-- The scales of a site are the reference's scales of the tile's groups. -/
theorem siteScale_eq : siteScale (F := Ideal) P (ix2 0 l) = gScale fun k => P (ix2 k l) := by
  rw [siteScale_apply, (group_eq _).1]

/-- The codes of a site are the reference's codes. -/
theorem siteCodes_eq : siteCodes (F := Ideal) P (ix2 k l) = gCode (fun k => P (ix2 k l)) (P (ix2 k l)) := by
  pointwise [siteCodes]
  rw [siteInv_apply, (group_eq _).2, lim_bf16, nlim_bf16]; rfl

/-- The values a site puts back are the reference's. -/
theorem siteBack_eq : siteBack (F := Ideal) P (ix2 k l) = gCode (fun k => P (ix2 k l)) (P (ix2 k l)) * gScale fun k => P (ix2 k l) := by
  pointwise [siteBack]
  rw [siteScale_eq P l, siteCodes_eq P k l]

end Cert.Dw
-- ==== Proof.Tile.lean ====
/- What one visit of the body leaves: the blocks of codes and of scales, and the block put back that the product reads. -/
module

public import proofs.«01_k».proof.Proof.Block
public import Idealize.ShloMosaic.Lib.WholeRead
public import Idealize.ShloMosaic.Lib.MatmulPlain

@[expose] public section

set_option maxRecDepth 16384

noncomputable section

namespace Cert.Dw

open Cert.Group

open Idealize.ShloMosaic Idealize.ShloMosaic.TcCoe
open Cert.KernelIdeal Cert.KernelIdeal.Gen

/-- The group `g` of column `q` of a block of the gradient: its 128 rows from `128 g`. -/
def bgrp (x1 : FVec Ideal S1024x1024 .bf16) (g : Fin 8) (q : Fin 1024) : Fin 128 → EReal :=
  fun k => x1 (ix2 ⟨g.val * 128 + k.val, by omega⟩ q)

/-- The code of one element of a block. -/
def bCode (x1 : FVec Ideal S1024x1024 .bf16) (r q : Fin 1024) : EReal :=
  gCode (bgrp x1 ⟨r.val / 128, by omega⟩ q) (x1 (ix2 r q))

/-- One element of a block put back. -/
def bBack (x1 : FVec Ideal S1024x1024 .bf16) (r q : Fin 1024) : EReal :=
  bCode x1 r q * gScale (bgrp x1 ⟨r.val / 128, by omega⟩ q)

/-- Every site is visited. -/
theorem mem_sites (g : Fin 8) (q : Fin 4) : (g, q) ∈ sites := by revert g q; decide

/-- An index of the block lies in the tile of its site. -/
theorem mem_tile (y : S1024x1024.Idx) :
    ∃ s ∈ sites, y ∈ (tileR s.1 s.2).set := by
  have h0 : (y 0).val < 1024 := (y 0).isLt
  have h1 : (y 1).val < 1024 := (y 1).isLt
  refine ⟨(⟨(y 0).val / 128, by omega⟩, ⟨(y 1).val / 256, by omega⟩), mem_sites _ _, ?_⟩
  rw [Rect.mem_set_unit]
  intro a
  match a with
  | ⟨0, _⟩ => show 128 * ((y 0).val / 128) ≤ (y 0).val ∧ (y 0).val < 128 * ((y 0).val / 128) + 128; omega
  | ⟨1, _⟩ => show 256 * ((y 1).val / 256) ≤ (y 1).val ∧ (y 1).val < 256 * ((y 1).val / 256) + 256; omega

/-- An index of the block of scales lies in the row of its site. -/
theorem mem_row (y : S8x1024.Idx) :
    ∃ s ∈ sites, y ∈ (rowR s.1 s.2).set := by
  have h0 : (y 0).val < 8 := (y 0).isLt
  have h1 : (y 1).val < 1024 := (y 1).isLt
  refine ⟨(⟨(y 0).val, h0⟩, ⟨(y 1).val / 256, by omega⟩), mem_sites _ _, ?_⟩
  rw [Rect.mem_set_unit]
  intro a
  match a with
  | ⟨0, _⟩ => show (y 0).val ≤ (y 0).val ∧ (y 0).val < (y 0).val + 1; omega
  | ⟨1, _⟩ => show 256 * ((y 1).val / 256) ≤ (y 1).val ∧ (y 1).val < 256 * ((y 1).val / 256) + 256; omega

/-- Where a tile's entry lies in the block. -/
theorem tile_emb (g : Fin 8) (q : Fin 4) (k : Fin 128) (l : Fin 256) :
    (tileR g q).emb (ix2 k l) = ix2 (⟨g.val * 128 + k.val, by omega⟩ : Fin 1024) (⟨256 * q.val + l.val, by omega⟩ : Fin 1024) := by
  funext a
  match a with
  | ⟨0, _⟩ => apply Fin.ext; show 128 * g.val + 1 * k.val = g.val * 128 + k.val; omega
  | ⟨1, _⟩ => apply Fin.ext; show 256 * q.val + 1 * l.val = 256 * q.val + l.val; omega

/-- Where a row's entry lies in the block of scales. -/
theorem row_emb (g : Fin 8) (q : Fin 4) (l : Fin 256) :
    (rowR g q).emb (ix2 0 l) = ix2 g (⟨256 * q.val + l.val, by omega⟩ : Fin 1024) := by
  funext a
  match a with
  | ⟨0, _⟩ => apply Fin.ext; show g.val + 1 * 0 = g.val; omega
  | ⟨1, _⟩ => apply Fin.ext; show 256 * q.val + 1 * l.val = 256 * q.val + l.val; omega

theorem div128 (g : Fin 8) (k : Fin 128) (h : (g.val * 128 + k.val) / 128 < 8) : (⟨(g.val * 128 + k.val) / 128, h⟩ : Fin 8) = g :=
  Fin.ext (by show (g.val * 128 + k.val) / 128 = g.val; omega)

/-- The code of row `k` of group `g`. -/
theorem bCode_at (x1 : FVec Ideal S1024x1024 .bf16) (g : Fin 8) (k : Fin 128) (q : Fin 1024) (h : g.val * 128 + k.val < 1024) :
    bCode x1 ⟨g.val * 128 + k.val, h⟩ q = gCode (bgrp x1 g q) (bgrp x1 g q k) := by
  rw [bCode, div128]; rfl

/-- Row `k` of group `g` put back. -/
theorem bBack_at (x1 : FVec Ideal S1024x1024 .bf16) (g : Fin 8) (k : Fin 128) (q : Fin 1024) (h : g.val * 128 + k.val < 1024) :
    bBack x1 ⟨g.val * 128 + k.val, h⟩ q = gCode (bgrp x1 g q) (bgrp x1 g q k) * gScale (bgrp x1 g q) := by
  rw [bBack, bCode_at, div128]

section visit

variable (arg3 : Memref sig .tc .vmem S1024x1024 .bf16) (harg3 : arg3.IsWhole) (x1 : FVec Ideal S1024x1024 .bf16)

/-- A loaded tile's column is a group of the block. -/
theorem tiles_apply (g : Fin 8) (q : Fin 4) (k : Fin 128) (l : Fin 256) :
    tiles (F := Ideal) arg3 harg3 x1 g q (ix2 k l) = bgrp x1 g ⟨256 * q.val + l.val, by omega⟩ k := by
  refine (harg3.readAt_unread (Val := Elt Ideal) x1 _ _).trans ?_
  exact congrArg x1 (tile_emb g q k l)

/-- The stores of a visit leave the block's codes. -/
theorem codes_canon (r q : Fin 1024) :
    View.canon (codesL (F := Ideal) (tiles arg3 harg3 x1)) (ix2 r q) = bCode x1 r q := by
  refine View.canon_apply_of_pieces (Val := Elt Ideal) (e := .fp8e4m3) (fun y : S1024x1024.Idx => bCode x1 (y 0) (y 1)) _ ?_ (ix2 r q) ?_
  · intro p hp x
    obtain ⟨⟨g, c⟩, -, rfl⟩ := List.mem_map.mp hp
    obtain ⟨k, l, rfl⟩ : ∃ (k : Fin 128) (l : Fin 256), x = ix2 k l := ⟨x 0, x 1, eq_ix2 x⟩
    refine (siteCodes_eq _ k l).trans ?_
    refine Eq.trans ?_ (congrArg (fun y : S1024x1024.Idx => bCode x1 (y 0) (y 1)) (tile_emb g c k l)).symm
    show _ = bCode x1 ⟨g.val * 128 + k.val, _⟩ ⟨256 * c.val + l.val, _⟩
    rw [bCode_at]
    simp only [tiles_apply]
  · obtain ⟨s, hs, hy⟩ := mem_tile (ix2 r q)
    exact ⟨_, List.mem_map.mpr ⟨s, hs, rfl⟩, hy⟩

/-- The stores of a visit into the scratch leave the block put back. -/
theorem back_canon (r q : Fin 1024) :
    View.canon (backL (F := Ideal) (tiles arg3 harg3 x1)) (ix2 r q) = bBack x1 r q := by
  refine View.canon_apply_of_pieces (Val := Elt Ideal) (e := .bf16) (fun y : S1024x1024.Idx => bBack x1 (y 0) (y 1)) _ ?_ (ix2 r q) ?_
  · intro p hp x
    obtain ⟨⟨g, c⟩, -, rfl⟩ := List.mem_map.mp hp
    obtain ⟨k, l, rfl⟩ : ∃ (k : Fin 128) (l : Fin 256), x = ix2 k l := ⟨x 0, x 1, eq_ix2 x⟩
    refine (siteBack_eq _ k l).trans ?_
    refine Eq.trans ?_ (congrArg (fun y : S1024x1024.Idx => bBack x1 (y 0) (y 1)) (tile_emb g c k l)).symm
    show _ = bBack x1 ⟨g.val * 128 + k.val, _⟩ ⟨256 * c.val + l.val, _⟩
    rw [bBack_at]
    simp only [tiles_apply]
  · obtain ⟨s, hs, hy⟩ := mem_tile (ix2 r q)
    exact ⟨_, List.mem_map.mpr ⟨s, hs, rfl⟩, hy⟩

/-- The stores of a visit leave the block's scales. -/
theorem scales_canon (g : Fin 8) (q : Fin 1024) :
    View.canon (scalesL (F := Ideal) (tiles arg3 harg3 x1)) (ix2 g q) = gScale (bgrp x1 g q) := by
  refine View.canon_apply_of_pieces (Val := Elt Ideal) (e := .f32) (fun y : S8x1024.Idx => gScale (bgrp x1 (y 0) (y 1))) _ ?_ (ix2 g q) ?_
  · intro p hp x
    obtain ⟨⟨g, c⟩, -, rfl⟩ := List.mem_map.mp hp
    obtain ⟨l, rfl⟩ : ∃ l : Fin 256, x = ix2 0 l := ⟨x 1, by
      refine (eq_ix2 x).trans ?_
      congr 1
      exact Fin.ext (by have h : (x 0).val < 1 := (x 0).isLt; show (x 0).val = 0; omega)⟩
    refine (siteScale_eq _ l).trans ?_
    refine Eq.trans ?_ (congrArg (fun y : S8x1024.Idx => gScale (bgrp x1 (y 0) (y 1))) (row_emb g c l)).symm
    simp only [tiles_apply]
    rfl
  · obtain ⟨s, hs, hy⟩ := mem_row (ix2 g q)
    exact ⟨_, List.mem_map.mpr ⟨s, hs, rfl⟩, hy⟩

end visit

end Cert.Dw
-- ==== Proof.Visit.lean ====
/- What a visit leaves in each output's staging buffer, at an index. -/
module

public import proofs.«01_k».proof.Proof.Tile

@[expose] public section

set_option maxRecDepth 16384

noncomputable section

namespace Cert.Dw

open Cert.Group

open Idealize.ShloMosaic Idealize.ShloMosaic.TcCoe
open Cert.KernelIdeal Cert.KernelIdeal.Gen

variable (c : Dev nD) (i : grid0.Coords) (arg2 : Memref sig .tc .vmem S2304x1024 .bf16) (harg2 : arg2.IsWhole)
  (arg3 : Memref sig .tc .vmem S1024x1024 .bf16) (harg3 : arg3.IsWhole) (arg4 : Memref sig .tc .vmem S2304x1024 .f32) (harg4 : arg4.IsWhole)
  (arg5 : Memref sig .tc .vmem S1024x1024 .fp8e4m3) (harg5 : arg5.IsWhole) (arg6 : Memref sig .tc .vmem S8x1024 .f32) (harg6 : arg6.IsWhole)
  (arg7 : Memref sig .tc .vmem S1024x1024 .bf16) (harg7 : arg7.IsWhole)
  (x0 : FVec Ideal S2304x1024 .bf16) (x1 : FVec Ideal S1024x1024 .bf16)

/-- The codes after a first visit. -/
theorem out3_A (hc0 : cond0_0 i) (r q : Fin 1024) :
    out0_A_3 (F := Ideal) c i arg2 harg2 arg3 harg3 arg4 harg4 arg5 harg5 arg6 harg6 arg7 harg7 hc0 x0 x1 (ix2 r q) = bCode x1 r q := by
  rw [out0_A_3, View.read_writes_junk_eq_canon, codes_A]
  exact codes_canon arg3 harg3 x1 r q

/-- The codes after a later visit. -/
theorem out3_B (hc0 : ¬ cond0_0 i) (xo : FVec Ideal S2304x1024 .f32) (r q : Fin 1024) :
    out0_B_3 (F := Ideal) c i arg2 harg2 arg3 harg3 arg4 harg4 arg5 harg5 arg6 harg6 arg7 harg7 hc0 x0 x1 xo (ix2 r q) = bCode x1 r q := by
  rw [out0_B_3, View.read_writes_junk_eq_canon, codes_B]
  exact codes_canon arg3 harg3 x1 r q

/-- The scales after a first visit. -/
theorem out4_A (hc0 : cond0_0 i) (g : Fin 8) (q : Fin 1024) :
    out0_A_4 (F := Ideal) c i arg2 harg2 arg3 harg3 arg4 harg4 arg5 harg5 arg6 harg6 arg7 harg7 hc0 x0 x1 (ix2 g q) = gScale (bgrp x1 g q) := by
  rw [out0_A_4, View.read_writes_junk_eq_canon, scales_A]
  exact scales_canon arg3 harg3 x1 g q

/-- The scales after a later visit. -/
theorem out4_B (hc0 : ¬ cond0_0 i) (xo : FVec Ideal S2304x1024 .f32) (g : Fin 8) (q : Fin 1024) :
    out0_B_4 (F := Ideal) c i arg2 harg2 arg3 harg3 arg4 harg4 arg5 harg5 arg6 harg6 arg7 harg7 hc0 x0 x1 xo (ix2 g q) = gScale (bgrp x1 g q) := by
  rw [out0_B_4, View.read_writes_junk_eq_canon, scales_B]
  exact scales_canon arg3 harg3 x1 g q

/-- A load of the whole of a buffer reads all of it. -/
theorem whole_emb {a b : ℕ} (inb : ∀ e, (![0, 0] : Fin 2 → Nat) e + (⟨2, ![a, b]⟩ : Shape).size e ≤ (⟨2, ![a, b]⟩ : Shape).size e)
    (r : Fin a) (q : Fin b) :
    (Rect.unit (s := ⟨2, ![a, b]⟩) ![0, 0] (⟨2, ![a, b]⟩ : Shape).size inb).emb (ix2 r q) = ix2 r q := by
  funext e
  match e with
  | ⟨0, _⟩ => apply Fin.ext; show 0 + 1 * r.val = r.val; omega
  | ⟨1, _⟩ => apply Fin.ext; show 0 + 1 * q.val = q.val; omega

/-- A block's product onto an accumulator, at an index. -/
theorem dot_apply (v : FVec Ideal S2304x1024 .f32) (A : FVec Ideal S2304x1024 .bf16) (B : FVec Ideal S1024x1024 .bf16) (r : Fin 2304) (q : Fin 1024) :
    k0_pay1 (F := Ideal) v A B (ix2 r q) = v (ix2 r q) + ∑ k : Fin 1024, A (ix2 r k) * B (ix2 k q) := by
  rw [k0_pay1]
  refine congrArg (fun z : EReal => v (ix2 r q) + z) ?_
  rw [ix2_eq_valueIdx]
  refine (Ideal.matmul_plain_apply (M := 2304) (K := 1024) (N := 1024) none _ _ _ r q).trans ?_
  rw [show (constant (F := Ideal) S2304x1024 .f32 0x00000000#32 : FVec Ideal S2304x1024 .f32) (ValueIdx.ix2 r q) = 0 from zero_f32, zero_add]
  refine Finset.sum_congr rfl fun k _ => ?_
  rw [← ix2_eq_valueIdx, ← ix2_eq_valueIdx]

/-- The gradient's other operand as the body loads it. -/
abbrev opA : FVec Ideal S2304x1024 .bf16 :=
  View.readAt (Elt Ideal) arg2.view (Rect.unit ![0, 0] S2304x1024.size inb_S2304x1024_S2304x1024_0_0).toLoadRect (harg2.unread x0)

/-- The block put back as the body loads it after the sites. -/
abbrev opB : FVec Ideal S1024x1024 .bf16 :=
  arg7.view.readCov (Val := Elt Ideal) (backL (F := Ideal) (tiles arg3 harg3 x1)) (Rect.unit ![0, 0] S1024x1024.size inb_S1024x1024_S1024x1024_0_0).toLoadRect

/-- The block's product as a visit computes it onto `v`. -/
theorem prod (v : FVec Ideal S2304x1024 .f32) (r : Fin 2304) (q : Fin 1024) :
    k0_pay1 (F := Ideal) v (opA arg2 harg2 x0) (opB arg3 harg3 arg7 x1) (ix2 r q)
      = v (ix2 r q) + ∑ k : Fin 1024, x0 (ix2 r k) * bBack x1 k q := by
  refine (dot_apply _ _ _ r q).trans (congrArg (fun z : EReal => v (ix2 r q) + z) (Finset.sum_congr rfl fun k _ => ?_))
  refine congr (congrArg _ ?_) ?_
  · refine (harg2.readAt_unread (Val := Elt Ideal) x0 _ _).trans ?_
    exact congrArg x0 (whole_emb _ r k)
  · rw [opB, View.readCov_eq_canon']
    refine (congrArg (View.canon (backL (F := Ideal) (tiles arg3 harg3 x1))) (whole_emb _ k q)).trans ?_
    exact back_canon arg3 harg3 x1 k q

/-- What a load of a whole accumulator re-shaped to its own shape reads. -/
theorem accLoad (v : FVec Ideal S2304x1024 .f32) : k0_pay195 (F := Ideal) v = v := by
  rw [k0_pay195]; exact shapeCast_self v _

/-- The list of stores into the product at a first visit. -/
theorem prodL_A (hc0 : cond0_0 i) :
    (kernelRun0_A (F := Ideal) c i arg2 harg2 arg3 harg3 arg4 harg4 arg5 harg5 arg6 harg6 arg7 harg7 hc0 x0 x1).1
      = ⟨Rect.unit ![0, 0] S2304x1024.size inb_S2304x1024_S2304x1024_0_0,
          k0_pay1 (F := Ideal) (k0_pay195 (F := Ideal) (arg4.view.readCov (Val := Elt Ideal) [⟨Rect.unit ![0, 0] S2304x1024.size inb_S2304x1024_S2304x1024_0_0, k0_pay194 (F := Ideal)⟩]
            (Rect.unit ![0, 0] S2304x1024.size inb_S2304x1024_S2304x1024_0_0).toLoadRect))
            (opA arg2 harg2 x0) (opB arg3 harg3 arg7 x1)⟩
        :: [⟨Rect.unit ![0, 0] S2304x1024.size inb_S2304x1024_S2304x1024_0_0, k0_pay194 (F := Ideal)⟩] := rfl

/-- The list of stores into the product at a later visit. -/
theorem prodL_B (hc0 : ¬ cond0_0 i) (xo : FVec Ideal S2304x1024 .f32) :
    (kernelRun0_B (F := Ideal) c i arg2 harg2 arg3 harg3 arg4 harg4 arg5 harg5 arg6 harg6 arg7 harg7 hc0 x0 x1 xo).1
      = [⟨Rect.unit ![0, 0] S2304x1024.size inb_S2304x1024_S2304x1024_0_0,
          k0_pay1 (F := Ideal) (k0_pay195 (F := Ideal) (View.readAt (Elt Ideal) arg4.view (Rect.unit ![0, 0] S2304x1024.size inb_S2304x1024_S2304x1024_0_0).toLoadRect
            (harg4.unread xo))) (opA arg2 harg2 x0) (opB arg3 harg3 arg7 x1)⟩] := rfl

/-- A store of the whole of a buffer, read at an index. -/
theorem canon_whole {a b : ℕ} (inb : ∀ e, (![0, 0] : Fin 2 → Nat) e + (⟨2, ![a, b]⟩ : Shape).size e ≤ (⟨2, ![a, b]⟩ : Shape).size e)
    (w : FVec Ideal ⟨2, ![a, b]⟩ .f32) (L : List (View.Piece (Elt Ideal) ⟨2, ![a, b]⟩ .f32)) (r : Fin a) (q : Fin b) :
    View.canon (Val := Elt Ideal) (⟨Rect.unit ![0, 0] (⟨2, ![a, b]⟩ : Shape).size inb, w⟩ :: L) (ix2 r q) = w (ix2 r q) := by
  have h := View.canon_cons_emb (Val := Elt Ideal) (e := .f32) (Rect.unit ![0, 0] (⟨2, ![a, b]⟩ : Shape).size inb) w L (ix2 r q)
  rw [whole_emb inb r q] at h
  exact h

/-- The product after a first visit: the block's product. -/
theorem out2_A (hc0 : cond0_0 i) (r : Fin 2304) (q : Fin 1024) :
    out0_A_2 (F := Ideal) c i arg2 harg2 arg3 harg3 arg4 harg4 arg5 harg5 arg6 harg6 arg7 harg7 hc0 x0 x1 (ix2 r q)
      = ∑ k : Fin 1024, x0 (ix2 r k) * bBack x1 k q := by
  rw [out0_A_2, View.read_writes_junk_eq_canon, prodL_A]
  refine (canon_whole inb_S2304x1024_S2304x1024_0_0 _ _ r q).trans ((prod arg2 harg2 arg3 harg3 arg7 x0 x1 _ r q).trans ?_)
  rw [accLoad, View.readCov_cons_toLoadRect]
  show Ideal.ofBits .f32 0x00000000#32 + _ = _
  rw [zero_f32, zero_add]

/-- The product after a later visit: the block's product added to what the visit before left. -/
theorem out2_B (hc0 : ¬ cond0_0 i) (xo : FVec Ideal S2304x1024 .f32) (r : Fin 2304) (q : Fin 1024) :
    out0_B_2 (F := Ideal) c i arg2 harg2 arg3 harg3 arg4 harg4 arg5 harg5 arg6 harg6 arg7 harg7 hc0 x0 x1 xo (ix2 r q)
      = xo (ix2 r q) + ∑ k : Fin 1024, x0 (ix2 r k) * bBack x1 k q := by
  rw [out0_B_2, View.read_writes_junk_eq_canon, prodL_B]
  refine (canon_whole inb_S2304x1024_S2304x1024_0_0 _ _ r q).trans ((prod arg2 harg2 arg3 harg3 arg7 x0 x1 _ r q).trans ?_)
  rw [accLoad]
  refine congrArg (fun z : EReal => z + ∑ k : Fin 1024, x0 (ix2 r k) * bBack x1 k q) ?_
  refine (harg4.readAt_unread (Val := Elt Ideal) xo _ _).trans ?_
  exact congrArg xo (whole_emb _ r q)

end Cert.Dw
-- ==== Proof.RefRead.lean ====
/- The reference's three arrays, read at an index over the extended reals. -/
module

public import proofs.«01_k».proof.Proof.Block
public import proofs.«01_k».proof.Proof.Layout
public import Idealize.ShloMosaic.Lib.MatmulPlain

@[expose] public section

set_option maxRecDepth 16384

noncomputable section

namespace Cert.Dw

open Cert.Group

open Idealize.ShloMosaic Idealize.ShloMosaic.TcCoe
open Cert.ReferenceIdeal Cert.ReferenceIdeal.Gen

/-- The group `g` of column `q` of the gradient: its 128 rows from `128 g`. -/
def grp (D : FVec Ideal S12288x9216 .bf16) (g : Fin 96) (q : Fin 9216) : Fin 128 → EReal :=
  fun k => D (ix2 ⟨g.val * 128 + k.val, by omega⟩ q)

/-- The code of one element of the gradient. -/
def codeAt (D : FVec Ideal S12288x9216 .bf16) (r : Fin 12288) (q : Fin 9216) : EReal :=
  gCode (grp D ⟨r.val / 128, by omega⟩ q) (D (ix2 r q))

/-- One element put back: its code times its group's scale. -/
def backAt (D : FVec Ideal S12288x9216 .bf16) (r : Fin 12288) (q : Fin 9216) : EReal :=
  codeAt D r q * gScale (grp D ⟨r.val / 128, by omega⟩ q)

/-- The named constant is the natural logarithm of two. -/
theorem ln2_named : Named.named (F := Ideal) Cert.ReferenceIdeal.κ "ln2" (φ := .f32) 0x3F317218#32 = ((Real.log 2 : ℝ) : EReal) :=
  IdealRules.named_const.ideal_named_scalar _ _ _ _ rfl

theorem refIn_apply (D : FVec Ideal S12288x9216 .bf16) (g : Fin 96) (k : Fin 128) (q : Fin 9216) :
    k0_pay2 (F := Ideal) D (ix3 g k q) = grp D g q k := by
  rw [k0_pay2]
  exact Layout.split_apply _ _ g k q (by omega)

/-- The reference's exponent of a group. -/
theorem refE_apply (D : FVec Ideal S12288x9216 .bf16) (g : Fin 96) (q : Fin 9216) :
    k0_pay3 (F := Ideal) D (ix2 g q) = Scale.refE (cmax (grp D g q) * Scale.c448) := by
  rw [k0_pay3, expOf_apply _ ln2_named, over448_apply]
  refine congrArg (fun z : EReal => Scale.refE (z * Scale.c448)) ?_
  refine (Layout.groupMax_apply _ _ _ _ _ g q).trans ?_
  rw [bot_f32, cmax]
  refine congrArg (fun f : Fin 128 → EReal => (Finset.univ : Finset (Fin 128)).fold max ⊥ f) (funext fun k => ?_)
  rw [← refIn_apply]; exact absOf_apply _ _

/-- The reference's scale of a group. -/
theorem refScale_apply (D : FVec Ideal S12288x9216 .bf16) (g : Fin 96) (q : Fin 9216) :
    k0_pay4 (F := Ideal) D (ix2 g q) = gScale (grp D g q) := by
  rw [gScale, ← refE_apply]; exact expTwo_apply _ _

/-- The reference's code, groups of rows apart. -/
theorem refCode3_apply (D : FVec Ideal S12288x9216 .bf16) (g : Fin 96) (k : Fin 128) (q : Fin 9216) :
    k0_pay5 (F := Ideal) D (ix3 g k q) = gCode (grp D g q) (grp D g q k) := by
  rw [k0_pay5]
  refine (clip_apply _ _ _).trans ?_
  rw [refIn_apply, gCode, ← refE_apply, ← invOf_apply]
  refine congrArg (fun z : EReal => min ((448 : ℝ) : EReal) (max ((-448 : ℝ) : EReal) (grp D g q k * z))) ?_
  exact Layout.spread_apply _ _ _ g k q

theorem grp_self (D : FVec Ideal S12288x9216 .bf16) (r : Fin 12288) (q : Fin 9216) :
    grp D ⟨r.val / 128, by omega⟩ q ⟨r.val % 128, by omega⟩ = D (ix2 r q) := by
  refine congrArg (fun z => D (ix2 z q)) (Fin.ext ?_)
  show r.val / 128 * 128 + r.val % 128 = r.val
  omega

/-- The reference's code of an element. -/
theorem refCode_apply (D : FVec Ideal S12288x9216 .bf16) (r : Fin 12288) (q : Fin 9216) :
    k0_pay1 (F := Ideal) (k0_pay5 (F := Ideal) D) (ix2 r q) = codeAt D r q := by
  rw [k0_pay1, codeAt, ← grp_self D r q, ← refCode3_apply]
  exact Layout.join_apply _ _ r q _ _ (by show r.val = r.val / 128 * 128 + r.val % 128; omega)

/-- The reference's product: the sum over all rows of the gradient, put back. -/
theorem refDot_apply (X : FVec Ideal S2304x12288 .bf16) (D : FVec Ideal S12288x9216 .bf16) (r : Fin 2304) (q : Fin 9216) :
    k0_pay6 (F := Ideal) D X (ix2 r q) = ∑ k : Fin 12288, X (ix2 r k) * backAt D k q := by
  rw [k0_pay6, ix2_eq_valueIdx]
  refine (Ideal.matmul_plain_apply (M := 2304) (K := 12288) (N := 9216) none _ _ _ r q).trans ?_
  rw [show (constant (F := Ideal) S2304x9216 .f32 0x00000000#32 : FVec Ideal S2304x9216 .f32) (ValueIdx.ix2 r q) = 0 from zero_f32, zero_add]
  refine Finset.sum_congr rfl fun k _ => ?_
  rw [← ix2_eq_valueIdx, ← ix2_eq_valueIdx]
  refine congrArg (fun z : EReal => X (ix2 r k) * z) ?_
  refine (Layout.join_apply _ _ k q ⟨k.val / 128, by omega⟩ ⟨k.val % 128, by omega⟩ (by show k.val = k.val / 128 * 128 + k.val % 128; omega)).trans ?_
  rw [backAt, codeAt, ← grp_self D k q, ← refCode3_apply, ← refScale_apply]
  refine congrArg (fun z : EReal => k0_pay5 (F := Ideal) D (ix3 ⟨k.val / 128, by omega⟩ ⟨k.val % 128, by omega⟩ q) * z) ?_
  exact (Layout.spread_apply _ _ _ _ _ q).trans (narrow_apply _ _ _)

end Cert.Dw
-- ==== Proof.Arrays.lean ====
/- The staged blocks as reads of the argument arrays, the accumulation over the visits of a column block, and the three
   result arrays after the run. -/
module

public import proofs.«01_k».proof.Proof.Visit
public import proofs.«01_k».proof.Proof.RefRead
public import proofs.«01_k».proof.Proof.Gen.KernelIdeal.Value

@[expose] public section

set_option maxRecDepth 16384

noncomputable section

namespace Cert.Dw

open Cert.Group

open Idealize.ShloMosaic Idealize.ShloMosaic.TcCoe
open Cert.KernelIdeal Cert.KernelIdeal.Gen

/-! ## Where the blocks of a point lie -/

theorem index_0 : ∀ t : Fin cfg0.N, win0_0.index t 0 = 0 ∧ win0_0.index t 1 = t.val % 12 :=
  (by decide +kernel : ∀ t : Fin grid0.N, win0_0.index t 0 = 0 ∧ win0_0.index t 1 = t.val % 12)
theorem index_1 : ∀ t : Fin cfg0.N, win0_1.index t 0 = t.val % 12 ∧ win0_1.index t 1 = t.val / 12 :=
  (by decide +kernel : ∀ t : Fin grid0.N, win0_1.index t 0 = t.val % 12 ∧ win0_1.index t 1 = t.val / 12)
theorem index_2 : ∀ t : Fin cfg0.N, win0_2.index t 0 = 0 ∧ win0_2.index t 1 = t.val / 12 :=
  (by decide +kernel : ∀ t : Fin grid0.N, win0_2.index t 0 = 0 ∧ win0_2.index t 1 = t.val / 12)
theorem index_3 : ∀ t : Fin cfg0.N, win0_3.index t 0 = t.val % 12 ∧ win0_3.index t 1 = t.val / 12 :=
  (by decide +kernel : ∀ t : Fin grid0.N, win0_3.index t 0 = t.val % 12 ∧ win0_3.index t 1 = t.val / 12)
theorem index_4 : ∀ t : Fin cfg0.N, win0_4.index t 0 = t.val % 12 ∧ win0_4.index t 1 = t.val / 12 :=
  (by decide +kernel : ∀ t : Fin grid0.N, win0_4.index t 0 = t.val % 12 ∧ win0_4.index t 1 = t.val / 12)

theorem lt_N (t : Fin cfg0.N) : t.val < 108 := lt_of_lt_of_eq t.isLt N_0

variable (m : (ℓ : Loc nD τ sig) → Buf (Elt Ideal) ℓ) (c : Dev nD)

/-- The dequantised activations, as launched. -/
abbrev XA : FVec Ideal S2304x12288 .bf16 := m ((c : Thread nD τ).loc main_arg0)

/-- The gradient, as launched. -/
abbrev DA : FVec Ideal S12288x9216 .bf16 := m ((c : Thread nD τ).loc main_arg1)

/-- The block of activations at a point. -/
abbrev xblk (t : Fin cfg0.N) : FVec Ideal S2304x1024 .bf16 := iblk m c 0 t

/-- The block of the gradient at a point. -/
abbrev dblk (t : Fin cfg0.N) : FVec Ideal S1024x1024 .bf16 := iblk m c 1 t

/-- The block of activations at a point, at an index. -/
theorem blockX (t : Fin cfg0.N) (r : Fin 2304) (k : Fin 1024) :
    xblk m c t (ix2 r k) = XA m c (ix2 r ⟨t.val % 12 * 1024 + k.val, by omega⟩) := by
  unfold xblk iblk
  rw [View.read_apply]
  show V m c main_arg0 _ = m (c.tc.loc main_arg0) _
  unfold V
  congr 1
  funext a
  apply Fin.ext
  match a with
  | ⟨0, _⟩ => show win0_0.index t 0 * 2304 + 1 * r.val = r.val; rw [(index_0 t).1]; omega
  | ⟨1, _⟩ => show win0_0.index t 1 * 1024 + 1 * k.val = t.val % 12 * 1024 + k.val; rw [(index_0 t).2]; omega

/-- The block of the gradient at a point, at an index. -/
theorem blockD (t : Fin cfg0.N) (r q : Fin 1024) :
    dblk m c t (ix2 r q)
      = DA m c (ix2 ⟨t.val % 12 * 1024 + r.val, by omega⟩ ⟨t.val / 12 * 1024 + q.val, by have := lt_N t; omega⟩) := by
  unfold dblk iblk
  rw [View.read_apply]
  show V m c main_arg1 _ = m (c.tc.loc main_arg1) _
  unfold V
  congr 1
  funext a
  apply Fin.ext
  match a with
  | ⟨0, _⟩ => show win0_1.index t 0 * 1024 + 1 * r.val = t.val % 12 * 1024 + r.val; rw [(index_1 t).1]; omega
  | ⟨1, _⟩ => show win0_1.index t 1 * 1024 + 1 * q.val = t.val / 12 * 1024 + q.val; rw [(index_1 t).2]; omega

/-! ## A block's groups, codes and values put back are the array's -/

theorem blockGrp (t : Fin cfg0.N) (g : Fin 8) (q : Fin 1024) :
    bgrp (dblk m c t) g q
      = grp (DA m c) ⟨t.val % 12 * 8 + g.val, by omega⟩ ⟨t.val / 12 * 1024 + q.val, by have := lt_N t; omega⟩ := by
  funext k
  refine (blockD m c t _ q).trans ?_
  refine congrArg (fun z => DA m c (ix2 z _)) (Fin.ext ?_)
  show t.val % 12 * 1024 + (g.val * 128 + k.val) = (t.val % 12 * 8 + g.val) * 128 + k.val
  omega

/-- The group of a row, in the block and in the array. -/
theorem rowGrp (t : Fin cfg0.N) (r q : Fin 1024) :
    bgrp (dblk m c t) ⟨r.val / 128, by omega⟩ q
      = grp (DA m c) ⟨(t.val % 12 * 1024 + r.val) / 128, by omega⟩ ⟨t.val / 12 * 1024 + q.val, by have := lt_N t; omega⟩ := by
  rw [blockGrp]
  refine congrArg (fun z => grp (DA m c) z _) (Fin.ext ?_)
  show t.val % 12 * 8 + r.val / 128 = (t.val % 12 * 1024 + r.val) / 128
  omega

theorem blockCode (t : Fin cfg0.N) (r q : Fin 1024) :
    bCode (dblk m c t) r q
      = codeAt (DA m c) ⟨t.val % 12 * 1024 + r.val, by omega⟩ ⟨t.val / 12 * 1024 + q.val, by have := lt_N t; omega⟩ := by
  rw [bCode, codeAt, rowGrp, blockD]

theorem blockBack (t : Fin cfg0.N) (r q : Fin 1024) :
    bBack (dblk m c t) r q
      = backAt (DA m c) ⟨t.val % 12 * 1024 + r.val, by omega⟩ ⟨t.val / 12 * 1024 + q.val, by have := lt_N t; omega⟩ := by
  rw [bBack, backAt, rowGrp, blockCode]

/-! ## What the outputs' staging buffers hold after a point -/

/-- A later visit's contents, over what the visit before left in the product's block. -/
theorem outsB (t : Fin cfg0.N) (h0 : ¬t.val % 12 = 0) :
    ∃ (xo : FVec Ideal S2304x1024 .f32) (hn : t.val - 1 < cfg0.N), xo = (outsAt0 m c (t.val - 1) hn).1 ∧
      outsAt0 m c t.val t.isLt = (
        out0_B_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) xo,
        out0_B_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) xo,
        out0_B_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) xo) :=
  ⟨_, _, rfl, outsAt0_B m c t h0⟩

theorem after3 (t : Fin cfg0.N) (r q : Fin 1024) :
    (outsAt0 m c t.val t.isLt).2.1 (ix2 r q)
      = codeAt (DA m c) ⟨t.val % 12 * 1024 + r.val, by omega⟩ ⟨t.val / 12 * 1024 + q.val, by have := lt_N t; omega⟩ := by
  rw [← blockCode]
  by_cases h0 : t.val % 12 = 0
  · rw [outsAt0_A m c t h0]; dsimp only
    exact
      (out3_A c (grid0.coords t) (ms0_0 t) (hs0_0 t) (ms0_1 t) (hs0_1 t) (ms0_2 t) (hs0_2 t) (ms0_3 t) (hs0_3 t) (ms0_4 t) (hs0_4 t) scM0_0 (Memref.isWhole_whole _) (xblk m c t) (dblk m c t) ((hcond0_0 t).mpr h0) r q)
  · obtain ⟨xo, hn, hxo, e⟩ := outsB m c t h0
    rw [e]; dsimp only
    exact
      (out3_B c (grid0.coords t) (ms0_0 t) (hs0_0 t) (ms0_1 t) (hs0_1 t) (ms0_2 t) (hs0_2 t) (ms0_3 t) (hs0_3 t) (ms0_4 t) (hs0_4 t) scM0_0 (Memref.isWhole_whole _) (xblk m c t) (dblk m c t) (fun hc => h0 ((hcond0_0 t).mp hc)) xo r q)

theorem after4 (t : Fin cfg0.N) (g : Fin 8) (q : Fin 1024) :
    (outsAt0 m c t.val t.isLt).2.2 (ix2 g q)
      = gScale (grp (DA m c) ⟨t.val % 12 * 8 + g.val, by omega⟩ ⟨t.val / 12 * 1024 + q.val, by have := lt_N t; omega⟩) := by
  rw [← blockGrp]
  by_cases h0 : t.val % 12 = 0
  · rw [outsAt0_A m c t h0]; dsimp only
    exact
      (out4_A c (grid0.coords t) (ms0_0 t) (hs0_0 t) (ms0_1 t) (hs0_1 t) (ms0_2 t) (hs0_2 t) (ms0_3 t) (hs0_3 t) (ms0_4 t) (hs0_4 t) scM0_0 (Memref.isWhole_whole _) (xblk m c t) (dblk m c t) ((hcond0_0 t).mpr h0) g q)
  · obtain ⟨xo, hn, hxo, e⟩ := outsB m c t h0
    rw [e]; dsimp only
    exact
      (out4_B c (grid0.coords t) (ms0_0 t) (hs0_0 t) (ms0_1 t) (hs0_1 t) (ms0_2 t) (hs0_2 t) (ms0_3 t) (hs0_3 t) (ms0_4 t) (hs0_4 t) scM0_0 (Memref.isWhole_whole _) (xblk m c t) (dblk m c t) (fun hc => h0 ((hcond0_0 t).mp hc)) xo g q)

/-- The term of the product's sum at row `n` of the gradient, zero past its end. -/
def term (r : Fin 2304) (Q : Fin 9216) (n : ℕ) : EReal :=
  if h : n < 12288 then XA m c (ix2 r ⟨n, h⟩) * backAt (DA m c) ⟨n, h⟩ Q else 0

/-- A visit's product is the part of the sum over the visit's rows. -/
theorem visitSum (t : Fin cfg0.N) (r : Fin 2304) (q : Fin 1024) :
    ∑ k : Fin 1024, xblk m c t (ix2 r k) * bBack (dblk m c t) k q
      = ∑ k ∈ Finset.range 1024, term m c r ⟨t.val / 12 * 1024 + q.val, by have := lt_N t; omega⟩ (t.val % 12 * 1024 + k) := by
  rw [← Fin.sum_univ_eq_sum_range]
  refine Finset.sum_congr rfl fun k _ => ?_
  rw [blockX, blockBack, term, dif_pos (by omega)]

/-- After a point the product's block holds the sum over the rows of the gradient seen so far. -/
theorem after2 : ∀ (n : ℕ) (h : n < cfg0.N) (r : Fin 2304) (q : Fin 1024) (Q : Fin 9216), Q.val = n / 12 * 1024 + q.val →
    (outsAt0 m c n h).1 (ix2 r q) = ∑ k ∈ Finset.range (n % 12 * 1024 + 1024), term m c r Q k
  | n, h, r, q, Q, hQ => by
    have hN := lt_N ⟨n, h⟩
    have hv := visitSum m c ⟨n, h⟩ r q
    have hQ' : (⟨n / 12 * 1024 + q.val, by omega⟩ : Fin 9216) = Q := Fin.ext hQ.symm
    dsimp only at hv
    rw [hQ'] at hv
    rw [Finset.sum_range_add, ← hv]
    by_cases h0 : n % 12 = 0
    · rw [show n % 12 * 1024 = 0 by omega, Finset.range_zero, Finset.sum_empty, zero_add]
      have e := outsAt0_A m c ⟨n, h⟩ h0
      dsimp only at e; rw [e]; dsimp only
      exact
        (out2_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) (xblk m c ⟨n, h⟩) (dblk m c ⟨n, h⟩) ((hcond0_0 ⟨n, h⟩).mpr h0) r q)
    · obtain ⟨xo, hn, hxo, e⟩ := outsB m c ⟨n, h⟩ h0
      dsimp only at e; rw [e]; dsimp only
      refine (out2_B c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) (xblk m c ⟨n, h⟩) (dblk m c ⟨n, h⟩) (fun hc => h0 ((hcond0_0 ⟨n, h⟩).mp hc)) xo r q).trans ?_
      rw [hxo]
      refine congrArg (fun z : EReal => z + ∑ k : Fin 1024, xblk m c ⟨n, h⟩ (ix2 r k) * bBack (dblk m c ⟨n, h⟩) k q) ?_
      refine (after2 (n - 1) hn r q Q (by omega)).trans ?_
      rw [show (n - 1) % 12 * 1024 + 1024 = n % 12 * 1024 by omega]
  termination_by n => n
  decreasing_by omega

end Cert.Dw
-- ==== Proof.Result.lean ====
/- The three result arrays after the kernel's run are the reference's three arrays of the same arguments. -/
module

public import proofs.«01_k».proof.Proof.Arrays
public import Idealize.ShloMosaic.Lib.Pipeline.ValueKit

@[expose] public section

set_option maxRecDepth 16384

noncomputable section

namespace Cert.Dw

open Cert.Group

open Idealize.ShloMosaic Idealize.ShloMosaic.TcCoe
open Cert.KernelIdeal Cert.KernelIdeal.Gen
open Idealize.ShloMosaic.Pipeline (Dat)

variable (m : (ℓ : Loc nD τ sig) → Buf (Elt Ideal) ℓ) (c : Dev nD)

/-- The reference's array of codes. -/
abbrev wantCodes : FVec Ideal S12288x9216 .fp8e4m3 := Cert.ReferenceIdeal.Gen.k0_pay1 (F := Ideal) (Cert.ReferenceIdeal.Gen.k0_pay5 (F := Ideal) (DA m c))

/-- The reference's array of scales. -/
abbrev wantScales : FVec Ideal S96x9216 .f32 := Cert.ReferenceIdeal.Gen.k0_pay4 (F := Ideal) (DA m c)

/-- The reference's product. -/
abbrev wantDw : FVec Ideal S2304x9216 .f32 := Cert.ReferenceIdeal.Gen.k0_pay6 (F := Ideal) (DA m c) (XA m c)

/-- The array of codes after the run. -/
theorem final3 : (dats m 0 c).arrAt 3 cfg0.N = wantCodes m c := by
  refine (dats m 0 c).arrAt_eq_of_covers 3 _ (by decide +kernel) fun t hf y => ?_
  show (dats m 0 c).after 3 t ((cfg0.win 3).xinj (grid0.coords t) y) = _
  rw [after0_3]
  have hr : ((cfg0.win 3).xinj (grid0.coords t) y 0).val < 1024 := ((cfg0.win 3).xinj (grid0.coords t) y 0).isLt
  have hq : ((cfg0.win 3).xinj (grid0.coords t) y 1).val < 1024 := ((cfg0.win 3).xinj (grid0.coords t) y 1).isLt
  have ht := lt_N t
  have hy : (cfg0.win 3).xinj (grid0.coords t) y = (ix2 (⟨_, hr⟩ : Fin 1024) (⟨_, hq⟩ : Fin 1024) : S1024x1024.Idx) :=
    eq_ix2 (n0 := 1024) (n1 := 1024) _
  have he : ((cfg0.win 3).blk t).view.emb y
      = (ix2 (⟨t.val % 12 * 1024 + ((cfg0.win 3).xinj (grid0.coords t) y 0).val, by omega⟩ : Fin 12288)
          (⟨t.val / 12 * 1024 + ((cfg0.win 3).xinj (grid0.coords t) y 1).val, by omega⟩ : Fin 9216) : S12288x9216.Idx) := by
    funext a
    apply Fin.ext
    match a with
    | ⟨0, _⟩ => show win0_3.index t 0 * 1024 + 1 * (y 0).val = t.val % 12 * 1024 + (y 0).val; rw [(index_3 t).1]; omega
    | ⟨1, _⟩ => show win0_3.index t 1 * 1024 + 1 * (y 1).val = t.val / 12 * 1024 + (y 1).val; rw [(index_3 t).2]; omega
  rw [he]
  refine Eq.trans ?_ (refCode_apply (DA m c) _ _).symm
  exact (congrArg (outsAt0 m c t.val t.isLt).2.1 hy).trans (after3 m c t _ _)

/-- The array of scales after the run. -/
theorem final4 : (dats m 0 c).arrAt 4 cfg0.N = wantScales m c := by
  refine (dats m 0 c).arrAt_eq_of_covers 4 _ (by decide +kernel) fun t hf y => ?_
  show (dats m 0 c).after 4 t ((cfg0.win 4).xinj (grid0.coords t) y) = _
  rw [after0_4]
  have hr : ((cfg0.win 4).xinj (grid0.coords t) y 0).val < 8 := ((cfg0.win 4).xinj (grid0.coords t) y 0).isLt
  have hq : ((cfg0.win 4).xinj (grid0.coords t) y 1).val < 1024 := ((cfg0.win 4).xinj (grid0.coords t) y 1).isLt
  have ht := lt_N t
  have hy : (cfg0.win 4).xinj (grid0.coords t) y = (ix2 (⟨_, hr⟩ : Fin 8) (⟨_, hq⟩ : Fin 1024) : S8x1024.Idx) :=
    eq_ix2 (n0 := 8) (n1 := 1024) _
  have he : ((cfg0.win 4).blk t).view.emb y
      = (ix2 (⟨t.val % 12 * 8 + ((cfg0.win 4).xinj (grid0.coords t) y 0).val, by omega⟩ : Fin 96)
          (⟨t.val / 12 * 1024 + ((cfg0.win 4).xinj (grid0.coords t) y 1).val, by omega⟩ : Fin 9216) : S96x9216.Idx) := by
    funext a
    apply Fin.ext
    match a with
    | ⟨0, _⟩ => show win0_4.index t 0 * 8 + 1 * (y 0).val = t.val % 12 * 8 + (y 0).val; rw [(index_4 t).1]; omega
    | ⟨1, _⟩ => show win0_4.index t 1 * 1024 + 1 * (y 1).val = t.val / 12 * 1024 + (y 1).val; rw [(index_4 t).2]; omega
  rw [he]
  refine Eq.trans ?_ (refScale_apply (DA m c) _ _).symm
  exact (congrArg (outsAt0 m c t.val t.isLt).2.2 hy).trans (after4 m c t _ _)

/-- The product after the run. -/
theorem final2 : (dats m 0 c).arrAt 2 cfg0.N = wantDw m c := by
  refine (dats m 0 c).arrAt_eq_of_covers 2 _ (by decide +kernel) fun t hf y => ?_
  show (dats m 0 c).after 2 t ((cfg0.win 2).xinj (grid0.coords t) y) = _
  rw [after0_2]
  have hr : ((cfg0.win 2).xinj (grid0.coords t) y 0).val < 2304 := ((cfg0.win 2).xinj (grid0.coords t) y 0).isLt
  have hq : ((cfg0.win 2).xinj (grid0.coords t) y 1).val < 1024 := ((cfg0.win 2).xinj (grid0.coords t) y 1).isLt
  have ht := lt_N t
  have hy : (cfg0.win 2).xinj (grid0.coords t) y = (ix2 (⟨_, hr⟩ : Fin 2304) (⟨_, hq⟩ : Fin 1024) : S2304x1024.Idx) :=
    eq_ix2 (n0 := 2304) (n1 := 1024) _
  have he : ((cfg0.win 2).blk t).view.emb y
      = (ix2 (⟨((cfg0.win 2).xinj (grid0.coords t) y 0).val, hr⟩ : Fin 2304)
          (⟨t.val / 12 * 1024 + ((cfg0.win 2).xinj (grid0.coords t) y 1).val, by omega⟩ : Fin 9216) : S2304x9216.Idx) := by
    funext a
    apply Fin.ext
    match a with
    | ⟨0, _⟩ => show win0_2.index t 0 * 2304 + 1 * (y 0).val = (y 0).val; rw [(index_2 t).1]; omega
    | ⟨1, _⟩ => show win0_2.index t 1 * 1024 + 1 * (y 1).val = t.val / 12 * 1024 + (y 1).val; rw [(index_2 t).2]; omega
  rw [he]
  refine Eq.trans ?_ (refDot_apply (XA m c) (DA m c) _ _).symm
  refine (congrArg (outsAt0 m c t.val t.isLt).1 hy).trans ((after2 m c t.val t.isLt _ _
    ⟨t.val / 12 * 1024 + ((cfg0.win 2).xinj (grid0.coords t) y 1).val, by omega⟩ rfl).trans ?_)
  have h11 : t.val % 12 = 11 := (flush0_2 t).mp hf
  rw [show t.val % 12 * 1024 + 1024 = 12288 by omega, ← Fin.sum_univ_eq_sum_range]
  refine Finset.sum_congr rfl fun k _ => ?_
  rw [term, dif_pos k.isLt]

end Cert.Dw
-- ==== Proof.XKBase.lean ====
/- What the runs of the requantising kernel are stated over: when the last point's branch is taken, the staged blocks as references, and
   the scratch buffer in the invariant. -/
module

public import proofs.«01_k».proof.Proof.Gen.XKernel.Frame
public import proofs.«01_k».proof.Proof.Gen.XKernel.Skeleton

@[expose] public section

set_option maxRecDepth 16384

noncomputable section

namespace Cert.XKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the last point only — by arithmetic of the point. -/
theorem hcond0_0 : ∀ t : Fin cfg0.N, cond0_0 (grid0.coords t) ↔ t.val % 12 = 11 :=
  (fun t => by
    have ht : t.val < 12 := Nat.lt_of_lt_of_eq t.isLt N_0
    have e0 : (grid0.coords t 0).val = t.val / 1 % 12 := Pipeline.Grid.coords_val t 0 (by decide) rfl
    simp only [cond0_0, k0_cond1, e0]
    word_cmp
   : ∀ t : Fin grid0.N, cond0_0 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2304 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x18 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2304x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2304x96 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2304x1024 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S16x8x2304 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.XKernel.Gen
-- ==== Proof.XKRunA.lean ====
/- The body of the requantising kernel at a point before the last: it runs, its inputs unchanged. -/
module

public import proofs.«01_k».proof.Proof.XKBase

@[expose] public section

set_option maxRecDepth 16384

noncomputable section

namespace Cert.XKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8972000 in
/-- The body's triple IN CASE A (`scf.if` 0 not taken: points 0, 1, … 10: 11 of 12): on whole staging memrefs — the inputs' at their contents,
    the FORGOTTEN outputs' (2, 3, 4) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1024x2304 .fp8e4m3) (harg1 : arg1.IsWhole) (arg2 : Memref sig .tc .vmem S1024x18 .f32) (harg2 : arg2.IsWhole) (arg3 : Memref sig .tc .vmem S2304x1024 .fp8e4m3) (harg3 : arg3.IsWhole) (arg4 : Memref sig .tc .vmem S2304x96 .f32) (harg4 : arg4.IsWhole) (arg5 : Memref sig .tc .vmem S2304x1024 .bf16) (harg5 : arg5.IsWhole) (arg6 : Memref sig .tc .vmem S16x8x2304 .f32) (harg6 : arg6.IsWhole) (hc0 : ¬cond0_0 i)
    (x0 : Vec F S1024x2304 .fp8e4m3) (x1 : Vec F S1024x18 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0_quantise_x i arg1 harg1 arg2 harg2 arg3 harg3 arg4 harg4 arg5 harg5 arg6 harg6) K := by
    intro E K
    simp only [cc0_quantise_x_eq_skeleton]; unfold cc0_quantise_x_skel
    simp only [k0_part236_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part237_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part238_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part239_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    iexists _, _; isplitr; swap; · iexact HS0
    ipureintro; rfl

end Cert.XKernel.Gen
-- ==== Proof.XKRunB.lean ====
/- The body of the requantising kernel at the last point: it runs, its inputs unchanged. -/
module

public import proofs.«01_k».proof.Proof.XKRunA

@[expose] public section

set_option maxRecDepth 16384

noncomputable section

namespace Cert.XKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8984000 in
/-- The body's triple IN CASE B (`scf.if` 0 taken: points 11): on whole staging memrefs — the inputs' at their contents,
    the FORGOTTEN outputs' (2, 3, 4) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1024x2304 .fp8e4m3) (harg1 : arg1.IsWhole) (arg2 : Memref sig .tc .vmem S1024x18 .f32) (harg2 : arg2.IsWhole) (arg3 : Memref sig .tc .vmem S2304x1024 .fp8e4m3) (harg3 : arg3.IsWhole) (arg4 : Memref sig .tc .vmem S2304x96 .f32) (harg4 : arg4.IsWhole) (arg5 : Memref sig .tc .vmem S2304x1024 .bf16) (harg5 : arg5.IsWhole) (arg6 : Memref sig .tc .vmem S16x8x2304 .f32) (harg6 : arg6.IsWhole) (hc0 : cond0_0 i)
    (x0 : Vec F S1024x2304 .fp8e4m3) (x1 : Vec F S1024x18 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0_quantise_x i arg1 harg1 arg2 harg2 arg3 harg3 arg4 harg4 arg5 harg5 arg6 harg6) K := by
    intro E K
    simp only [cc0_quantise_x_eq_skeleton]; unfold cc0_quantise_x_skel
    simp only [k0_part236_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part237_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part238_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part239_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    iexists _, _; isplitr; swap; · iexact HS0
    ipureintro; rfl

end Cert.XKernel.Gen
-- ==== Proof.XKFrame.lean ====
/- The frame of the requantising kernel: it terminates and leaves its arguments unchanged. -/
module

public import proofs.«01_k».proof.Proof.XKRunB
public import Idealize.ShloMosaic.Lib.Claim

@[expose] public section

set_option maxRecDepth 16384

noncomputable section

namespace Cert.XKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (2, 3, 4): nothing reads what the kernel leaves in them, so nothing
    of it is named (Lib/Pipeline/Dat.lean `Dat.toRForget`). -/
def forgets0 : Fin 5 → Bool := fun w => w.val == 2 || w.val == 3 || w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare d)
    ∗ (∃ d, owns (c : Thread nD τ) (ms0_3 t) fullShare d)
    ∗ (∃ d, owns (c : Thread nD τ) (ms0_4 t) fullShare d))

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 12 := lt_of_lt_of_eq t.isLt (show cfg0.N = 12 from N_0)
  by_cases h0 : t.val % 12 = 11
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ ((hcond0_0 t).mpr h0) (iblk m c 0 t) (iblk m c 1 t)) Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ (fun h => h0 ((hcond0_0 t).mp h)) (iblk m c 0 t) (iblk m c 1 t)) Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 2, 3, 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c))⟩) (run_main m ρ)

/-- THE FRAME: `Cert.quiescent_XKernel`'s statement (Defs.lean) at any `F` — Proof.lean cites it at `Bits`:
    `theorem Cert.Proof.claim : Cert.Claim := ⟨Cert.XKernel.Gen.facts, fun m ρ _ => Cert.XKernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.XKernel.Gen
-- ==== Proof.XIBase.lean ====
/- What the runs of the ideal requantising kernel are stated over: when the last point's branch is taken, the staged blocks as references, and
   the scratch buffer in the invariant. -/
module

public import proofs.«01_k».proof.Proof.Gen.XKernelIdeal.Frame
public import proofs.«01_k».proof.Proof.Gen.XKernelIdeal.Skeleton

@[expose] public section

set_option maxRecDepth 16384

noncomputable section

namespace Cert.XKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the last point only — by arithmetic of the point. -/
theorem hcond0_0 : ∀ t : Fin cfg0.N, cond0_0 (grid0.coords t) ↔ t.val % 12 = 11 :=
  (fun t => by
    have ht : t.val < 12 := Nat.lt_of_lt_of_eq t.isLt N_0
    have e0 : (grid0.coords t 0).val = t.val / 1 % 12 := Pipeline.Grid.coords_val t 0 (by decide) rfl
    simp only [cond0_0, k0_cond1, e0]
    word_cmp
   : ∀ t : Fin grid0.N, cond0_0 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2304 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x18 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2304x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2304x96 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2304x1024 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S16x8x2304 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.XKernelIdeal.Gen
-- ==== Proof.XIRunA.lean ====
/- The body of the ideal requantising kernel at a point before the last, with what it stores. -/
module

public import proofs.«01_k».proof.Proof.XIBase

@[expose] public section

set_option maxRecDepth 16384

noncomputable section

namespace Cert.XKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 9000000 in
/-- What the body leaves at a point before the last: the stores into the blocks of codes and activations and into the scratch, as
    lists (last first), with the proof that the body runs and leaves just these. -/
noncomputable def kernelRun0_A (c : Dev nD) (i : grid0.Coords) (arg1 : Memref sig .tc .vmem S1024x2304 .fp8e4m3) (harg1 : arg1.IsWhole) (arg2 : Memref sig .tc .vmem S1024x18 .f32) (harg2 : arg2.IsWhole) (arg3 : Memref sig .tc .vmem S2304x1024 .fp8e4m3) (harg3 : arg3.IsWhole) (arg4 : Memref sig .tc .vmem S2304x96 .f32) (harg4 : arg4.IsWhole) (arg5 : Memref sig .tc .vmem S2304x1024 .bf16) (harg5 : arg5.IsWhole) (arg6 : Memref sig .tc .vmem S16x8x2304 .f32) (harg6 : arg6.IsWhole) (hc0 : ¬cond0_0 i)
    (x0 : Vec F S1024x2304 .fp8e4m3) (x1 : Vec F S1024x18 .f32) (x3 : Vec F S2304x96 .f32) (xs : Vec F S16x8x2304 .f32) :
    Σ' (L2 : List (View.Piece (Elt F) S2304x1024 .fp8e4m3)), Σ' (L4 : List (View.Piece (Elt F) S2304x1024 .bf16)), { LT0 : List (View.Piece (Elt F) S16x8x2304 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare x3 ∗ (∃ f, arg5.view.loc (c : Thread nD τ) ↦[arg5.view.set]{fullShare} arg5.view.writes (Elt F) f L4) ∗ arg6.view.loc (c : Thread nD τ) ↦[arg6.view.set]{fullShare} arg6.view.writes (Elt F) (harg6.unread xs) LT0) -∗ K ⟨⟩))
          ⊢ wp frame (wpE (defs₀ (F := F)) Variants.none c none) E (cc0_quantise_x i arg1 harg1 arg2 harg2 arg3 harg3 arg4 harg4 arg5 harg5 arg6 harg6) K } := by
  refine ⟨?_, ?_, ?_, fun E K => ?run⟩
  case run =>
    simp only [cc0_quantise_x_eq_skeleton]; unfold cc0_quantise_x_skel
    simp only [k0_part236_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part237_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part238_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part239_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton]
    unfold owns
    iintro ⟨⟨%f0, %hf0, H0⟩, ⟨%f1, %hf1, H1⟩, ⟨%d2, %f2, -, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg4.eq_unread hf3; obtain rfl := harg6.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]; · iexists _; iexact H4
    iexact HS0

end Cert.XKernelIdeal.Gen
-- ==== Proof.XIRunB.lean ====
/- The body of the ideal requantising kernel at the last point, with what it stores. -/
module

public import proofs.«01_k».proof.Proof.XIRunA

@[expose] public section

set_option maxRecDepth 16384

noncomputable section

namespace Cert.XKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 9000000 in
/-- What the body leaves at a point that is the last: the stores into the blocks of codes, scales and activations and into the scratch, as
    lists (last first), with the proof that the body runs and leaves just these. -/
noncomputable def kernelRun0_B (c : Dev nD) (i : grid0.Coords) (arg1 : Memref sig .tc .vmem S1024x2304 .fp8e4m3) (harg1 : arg1.IsWhole) (arg2 : Memref sig .tc .vmem S1024x18 .f32) (harg2 : arg2.IsWhole) (arg3 : Memref sig .tc .vmem S2304x1024 .fp8e4m3) (harg3 : arg3.IsWhole) (arg4 : Memref sig .tc .vmem S2304x96 .f32) (harg4 : arg4.IsWhole) (arg5 : Memref sig .tc .vmem S2304x1024 .bf16) (harg5 : arg5.IsWhole) (arg6 : Memref sig .tc .vmem S16x8x2304 .f32) (harg6 : arg6.IsWhole) (hc0 : cond0_0 i)
    (x0 : Vec F S1024x2304 .fp8e4m3) (x1 : Vec F S1024x18 .f32) (xs : Vec F S16x8x2304 .f32) :
    Σ' (L2 : List (View.Piece (Elt F) S2304x1024 .fp8e4m3)), Σ' (L3 : List (View.Piece (Elt F) S2304x96 .f32)), Σ' (L4 : List (View.Piece (Elt F) S2304x1024 .bf16)), { LT0 : List (View.Piece (Elt F) S16x8x2304 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ arg6.view.loc (c : Thread nD τ) ↦[arg6.view.set]{fullShare} arg6.view.writes (Elt F) (harg6.unread xs) LT0) -∗ K ⟨⟩))
          ⊢ wp frame (wpE (defs₀ (F := F)) Variants.none c none) E (cc0_quantise_x i arg1 harg1 arg2 harg2 arg3 harg3 arg4 harg4 arg5 harg5 arg6 harg6) K } := by
  refine ⟨?_, ?_, ?_, ?_, fun E K => ?run⟩
  case run =>
    simp only [cc0_quantise_x_eq_skeleton]; unfold cc0_quantise_x_skel
    simp only [k0_part236_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part237_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part238_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part239_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg6.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexact HS0

end Cert.XKernelIdeal.Gen
-- ==== Proof.XSite.lean ====
/- One site of the requantising kernel, a 128 × 128 tile of the codes with the column of scales of its rows, as named functions of the
   two; and the stores of the whole body as lists over the 144 sites. -/
module

public import proofs.«01_k».proof.Proof.XIRunB

@[expose] public section

set_option maxRecDepth 65536

noncomputable section

namespace Cert.Xq

open Idealize.ShloMosaic Idealize.ShloMosaic.TcCoe
open Cert.XKernelIdeal Cert.XKernelIdeal.Gen

variable {F : FTy → Type} [FloatOps F]

/-- A tile's values: its codes times the scales of its rows. -/
def xv (P : Vec F S128x128 .fp8e4m3) (S : Vec F S128x1 .f32) : FVec F S128x128 .f32 :=
  mulf (extf .f32 P bitsLt_fp8e4m3_f32) (broadcastTo S128x128 S broadcasts_S128x1_S128x128)

/-- The column maxima of the magnitude of a tile's values, divided by 448 as the kernel does it. -/
def xT (P : Vec F S128x128 .fp8e4m3) (S : Vec F S128x1 .f32) : FVec F S1x128 .f32 :=
  mulf (shapeCast S1x128 (multiReduction .maximumf [0] S128 (absf (xv P S)) 0xFF800000#32 reduces_S128x128_S128 (.inl rfl) rfl)
    shapeCasts_S128_S1x128) (broadcast S1x128 (FloatOps.ofBits .f32 0x3B124925#32))

/-- How many of the 256 powers of two lie above each column's `t`. -/
def xAbove (t : FVec F S1x128 .f32) : IVec S1x128 32 :=
  shapeCast S1x128 (multiReductionI .add [0] S128 (select (cmpf .ogt (bitcastToFloat (F := F) .f32 (shli (iota .tc S256x128 32 [0] iota_S256x128_d0_w32)
    (broadcast S256x128 23#32))) (broadcastTo S256x128 t broadcasts_S1x128_S256x128)) (broadcast S256x128 1#32) (broadcast S256x128 0#32))
    0#32 reduces_S256x128_S128 rfl) shapeCasts_S128_S1x128

/-- The exponent field of each column's `t`, by the count; 255 from 2 ^ 120 on. -/
def xField (t : FVec F S1x128 .f32) : IVec S1x128 32 :=
  select (cmpf .oge t (broadcast S1x128 (FloatOps.ofBits .f32 0x7B800000#32))) (broadcast S1x128 255#32)
    (subi (broadcast S1x128 255#32) (xAbove t))

/-- The scale's exponent from the exponent field. -/
def xExp (t : FVec F S1x128 .f32) : IVec S1x128 32 :=
  select (andi (cmpf .one t (broadcast S1x128 (FloatOps.ofBits .f32 0x00000000#32))) (cmpi .ne (xField t) (broadcast S1x128 255#32)))
    (subi (xField t) (broadcast S1x128 126#32)) (broadcast S1x128 0#32)

/-- The scales of a tile's columns. -/
def xScale (P : Vec F S128x128 .fp8e4m3) (S : Vec F S128x1 .f32) : FVec F S1x128 .f32 :=
  bitcastToFloat .f32 (shli (addi (broadcast S1x128 127#32) (xExp (xT P S))) (broadcast S1x128 23#32))

/-- The reciprocals of the scales of a tile's columns. -/
def xInv (P : Vec F S128x128 .fp8e4m3) (S : Vec F S128x1 .f32) : FVec F S1x128 .f32 :=
  bitcastToFloat .f32 (shli (subi (broadcast S1x128 127#32) (xExp (xT P S))) (broadcast S1x128 23#32))

/-- The codes of a tile, in the wide format the kernel keeps them in. -/
def xCode (P : Vec F S128x128 .fp8e4m3) (S : Vec F S128x1 .f32) : FVec F S128x128 .bf16 :=
  extf .bf16 (truncf .fp8e4m3 (minimumf (broadcast S128x128 (FloatOps.ofBits .f32 0x43E00000#32))
    (maximumf (broadcast S128x128 (FloatOps.ofBits .f32 0xC3E00000#32))
      (mulf (xv P S) (broadcastTo S128x128 (xInv P S) broadcasts_S1x128_S128x128)))) bitsLt_fp8e4m3_f32) bitsLt_fp8e4m3_bf16

/-- The codes of a tile, transposed. -/
def xCodeT (P : Vec F S128x128 .fp8e4m3) (S : Vec F S128x1 .f32) : FVec F S128x128 .fp8e4m3 :=
  truncf .fp8e4m3 (transpose S128x128 [1, 0] (xCode P S) transposes_S128x128_p1_0_S128x128) bitsLt_fp8e4m3_bf16

/-- A tile put back and transposed: its codes times the scales of its columns. -/
def xBackT (P : Vec F S128x128 .fp8e4m3) (S : Vec F S128x1 .f32) : FVec F S128x128 .bf16 :=
  transpose S128x128 [1, 0] (mulf (xCode P S)
    (broadcastTo S128x128 (truncf .bf16 (xScale P S) bitsLt_bf16_f32) broadcasts_S1x128_S128x128)) transposes_S128x128_p1_0_S128x128

/-- The row of scales of a tile, as it is kept. -/
def xRow (P : Vec F S128x128 .fp8e4m3) (S : Vec F S128x1 .f32) : FVec F S1x1x128 .f32 :=
  shapeCast S1x1x128 (xScale P S) shapeCasts_S1x128_S1x1x128

theorem inbIn (g : Fin 8) (c : Fin 18) : ∀ a, (![128 * g.val, 128 * c.val] : Fin 2 → Nat) a + S128x128.size a ≤ S1024x2304.size a := by
  revert g c; decide
theorem inbCol (g : Fin 8) (c : Fin 18) : ∀ a, (![128 * g.val, c.val] : Fin 2 → Nat) a + S128x1.size a ≤ S1024x18.size a := by
  revert g c; decide
theorem inbOut (g : Fin 8) (c : Fin 18) : ∀ a, (![128 * c.val, 128 * g.val] : Fin 2 → Nat) a + S128x128.size a ≤ S2304x1024.size a := by
  revert g c; decide

/-- The rectangle of site `(g, c)`'s codes. -/
abbrev inR (g : Fin 8) (c : Fin 18) : Rect S1024x2304 := Rect.unit ![128 * g.val, 128 * c.val] S128x128.size (inbIn g c)
/-- The rectangle of the scales of site `(g, c)`'s rows. -/
abbrev colR (g : Fin 8) (c : Fin 18) : Rect S1024x18 := Rect.unit ![128 * g.val, c.val] S128x1.size (inbCol g c)
/-- The rectangle of site `(g, c)`'s results. -/
abbrev outR (g : Fin 8) (c : Fin 18) : Rect S2304x1024 := Rect.unit ![128 * c.val, 128 * g.val] S128x128.size (inbOut g c)

/-- Where the rows of scales of a point are kept. -/
def rowOff (i : grid0.Coords) : Nat := (Scalar.indexCast (BitVec.ofNat 32 (i 0).val) : Index).toNat

theorem rowOff_eq (i : grid0.Coords) : rowOff i = (i 0).val := by
  have h : (i 0).val < 12 := (i 0).isLt
  have e : ∀ k : Fin 12, (Scalar.indexCast (BitVec.ofNat 32 k.val) : Index).toNat = k.val := by decide
  exact e ⟨(i 0).val, h⟩

theorem rowOff_lt (i : grid0.Coords) : rowOff i < 12 := by
  have h : (i 0).val < 12 := (i 0).isLt
  rw [rowOff_eq]; exact h

theorem inbRow (i : grid0.Coords) (g : Fin 8) (c : Fin 18) :
    ∀ a, (![rowOff i, g.val, 128 * c.val] : Fin 3 → Nat) a + S1x1x128.size a ≤ S16x8x2304.size a := by
  have := rowOff_lt i
  intro a
  match a with
  | ⟨0, _⟩ => show rowOff i + 1 ≤ 16; omega
  | ⟨1, _⟩ => show g.val + 1 ≤ 8; omega
  | ⟨2, _⟩ => show 128 * c.val + 128 ≤ 2304; omega

/-- The rectangle of site `(g, c)`'s row of scales at a point. -/
abbrev rowR (i : grid0.Coords) (g : Fin 8) (c : Fin 18) : Rect S16x8x2304 :=
  Rect.unit ![rowOff i, g.val, 128 * c.val] S1x1x128.size (inbRow i g c)

/-- The sites, the last one the body comes to first. -/
def sites : List (Fin 8 × Fin 18) :=
  [(7, 17), (7, 16), (7, 15), (7, 14), (7, 13), (7, 12), (7, 11), (7, 10), (7, 9), (7, 8), (7, 7), (7, 6), (7, 5), (7, 4), (7, 3), (7, 2), (7, 1), (7, 0),
   (6, 17), (6, 16), (6, 15), (6, 14), (6, 13), (6, 12), (6, 11), (6, 10), (6, 9), (6, 8), (6, 7), (6, 6), (6, 5), (6, 4), (6, 3), (6, 2), (6, 1), (6, 0),
   (5, 17), (5, 16), (5, 15), (5, 14), (5, 13), (5, 12), (5, 11), (5, 10), (5, 9), (5, 8), (5, 7), (5, 6), (5, 5), (5, 4), (5, 3), (5, 2), (5, 1), (5, 0),
   (4, 17), (4, 16), (4, 15), (4, 14), (4, 13), (4, 12), (4, 11), (4, 10), (4, 9), (4, 8), (4, 7), (4, 6), (4, 5), (4, 4), (4, 3), (4, 2), (4, 1), (4, 0),
   (3, 17), (3, 16), (3, 15), (3, 14), (3, 13), (3, 12), (3, 11), (3, 10), (3, 9), (3, 8), (3, 7), (3, 6), (3, 5), (3, 4), (3, 3), (3, 2), (3, 1), (3, 0),
   (2, 17), (2, 16), (2, 15), (2, 14), (2, 13), (2, 12), (2, 11), (2, 10), (2, 9), (2, 8), (2, 7), (2, 6), (2, 5), (2, 4), (2, 3), (2, 2), (2, 1), (2, 0),
   (1, 17), (1, 16), (1, 15), (1, 14), (1, 13), (1, 12), (1, 11), (1, 10), (1, 9), (1, 8), (1, 7), (1, 6), (1, 5), (1, 4), (1, 3), (1, 2), (1, 1), (1, 0),
   (0, 17), (0, 16), (0, 15), (0, 14), (0, 13), (0, 12), (0, 11), (0, 10), (0, 9), (0, 8), (0, 7), (0, 6), (0, 5), (0, 4), (0, 3), (0, 2), (0, 1), (0, 0)]

variable (P : Fin 8 → Fin 18 → Vec F S128x128 .fp8e4m3) (S : Fin 8 → Fin 18 → Vec F S128x1 .f32)

/-- The stores of the codes. -/
def codesL : List (View.Piece (Elt F) S2304x1024 .fp8e4m3) := sites.map fun s => ⟨outR s.1 s.2, xCodeT (P s.1 s.2) (S s.1 s.2)⟩
/-- The stores of the tiles put back. -/
def backL : List (View.Piece (Elt F) S2304x1024 .bf16) := sites.map fun s => ⟨outR s.1 s.2, xBackT (P s.1 s.2) (S s.1 s.2)⟩
/-- The stores of the rows of scales. -/
def rowsL (i : grid0.Coords) : List (View.Piece (Elt F) S16x8x2304 .f32) :=
  sites.map fun s => ⟨rowR i s.1 s.2, xRow (P s.1 s.2) (S s.1 s.2)⟩

section runs

variable (c : Dev nD) (i : grid0.Coords) (arg1 : Memref sig .tc .vmem S1024x2304 .fp8e4m3) (harg1 : arg1.IsWhole)
  (arg2 : Memref sig .tc .vmem S1024x18 .f32) (harg2 : arg2.IsWhole) (arg3 : Memref sig .tc .vmem S2304x1024 .fp8e4m3) (harg3 : arg3.IsWhole)
  (arg4 : Memref sig .tc .vmem S2304x96 .f32) (harg4 : arg4.IsWhole) (arg5 : Memref sig .tc .vmem S2304x1024 .bf16) (harg5 : arg5.IsWhole)
  (arg6 : Memref sig .tc .vmem S16x8x2304 .f32) (harg6 : arg6.IsWhole)
  (x0 : Vec F S1024x2304 .fp8e4m3) (x1 : Vec F S1024x18 .f32) (x3 : Vec F S2304x96 .f32) (xs : Vec F S16x8x2304 .f32)

/-- The tiles of codes as the body loads them from the staged block. -/
def tilesP (g : Fin 8) (k : Fin 18) : Vec F S128x128 .fp8e4m3 :=
  View.readAt (Elt F) arg1.view (inR g k).toLoadRect (harg1.unread x0)

/-- The columns of scales as the body loads them from the staged block. -/
def tilesS (g : Fin 8) (k : Fin 18) : Vec F S128x1 .f32 :=
  View.readAt (Elt F) arg2.view (colR g k).toLoadRect (harg2.unread x1)

theorem codes_A (hc0 : ¬ cond0_0 i) :
    (kernelRun0_A c i arg1 harg1 arg2 harg2 arg3 harg3 arg4 harg4 arg5 harg5 arg6 harg6 hc0 x0 x1 x3 xs).1
      = codesL (tilesP arg1 harg1 x0) (tilesS arg2 harg2 x1) := rfl
theorem back_A (hc0 : ¬ cond0_0 i) :
    (kernelRun0_A c i arg1 harg1 arg2 harg2 arg3 harg3 arg4 harg4 arg5 harg5 arg6 harg6 hc0 x0 x1 x3 xs).2.1
      = backL (tilesP arg1 harg1 x0) (tilesS arg2 harg2 x1) := rfl
theorem rows_A (hc0 : ¬ cond0_0 i) :
    (kernelRun0_A c i arg1 harg1 arg2 harg2 arg3 harg3 arg4 harg4 arg5 harg5 arg6 harg6 hc0 x0 x1 x3 xs).2.2.1
      = rowsL (tilesP arg1 harg1 x0) (tilesS arg2 harg2 x1) i := rfl

theorem codes_B (hc0 : cond0_0 i) :
    (kernelRun0_B c i arg1 harg1 arg2 harg2 arg3 harg3 arg4 harg4 arg5 harg5 arg6 harg6 hc0 x0 x1 xs).1
      = codesL (tilesP arg1 harg1 x0) (tilesS arg2 harg2 x1) := rfl
theorem back_B (hc0 : cond0_0 i) :
    (kernelRun0_B c i arg1 harg1 arg2 harg2 arg3 harg3 arg4 harg4 arg5 harg5 arg6 harg6 hc0 x0 x1 xs).2.2.1
      = backL (tilesP arg1 harg1 x0) (tilesS arg2 harg2 x1) := rfl
theorem rows_B (hc0 : cond0_0 i) :
    (kernelRun0_B c i arg1 harg1 arg2 harg2 arg3 harg3 arg4 harg4 arg5 harg5 arg6 harg6 hc0 x0 x1 xs).2.2.2.1
      = rowsL (tilesP arg1 harg1 x0) (tilesS arg2 harg2 x1) i := rfl

theorem scales_B (hc0 : cond0_0 i) :
    (kernelRun0_B c i arg1 harg1 arg2 harg2 arg3 harg3 arg4 harg4 arg5 harg5 arg6 harg6 hc0 x0 x1 xs).2.1
      = [⟨Rect.unit ![0, 0] S2304x96.size inb_S2304x96_S2304x96_0_0,
          k0_pay2 (View.readAt (Elt F) arg6.view (Rect.unit ![0, 0, 0] S16x8x2304.size inb_S16x8x2304_S16x8x2304_0_0_0).toLoadRect
            (arg6.view.writes (Elt F) (harg6.unread xs) (rowsL (tilesP arg1 harg1 x0) (tilesS arg2 harg2 x1) i)))⟩] := rfl

end runs

end Cert.Xq
-- ==== Proof.XBlock.lean ====
/- What one site of the requantising kernel computes, read at an index over the extended reals. -/
module

public import proofs.«01_k».proof.Proof.XSite
public import proofs.«01_k».proof.Proof.Group
public import Idealize.ShloMosaic.Lib.Pointwise

@[expose] public section

set_option maxRecDepth 16384

noncomputable section

namespace Cert.Xq

open Cert.Group

open Idealize.ShloMosaic Idealize.ShloMosaic.TcCoe
open Cert.XKernelIdeal Cert.XKernelIdeal.Gen

theorem xField_apply (t : FVec Ideal S1x128 .f32) (l : Fin 128) : xField t (ix2 0 l) = Scale.field (t (ix2 0 l)) := by
  rw [xField, xAbove]
  exact field_apply t _ _ _ _ _ l

theorem xExp_apply (t : FVec Ideal S1x128 .f32) (l : Fin 128) : xExp t (ix2 0 l) = Scale.expo (t (ix2 0 l)) := by
  rw [xExp]
  exact expo_apply t _ _ (xField_apply t l)

variable (P : FVec Ideal S128x128 .fp8e4m3) (S : FVec Ideal S128x1 .f32)

/-- A tile's value: the code times its row's scale. -/
theorem xv_apply (k l : Fin 128) : xv (F := Ideal) P S (ix2 k l) = P (ix2 k l) * S (ix2 k 0) := by
  pointwise [xv]

/-- A column of a tile's values. -/
def xcol (l : Fin 128) : Fin 128 → EReal := fun k => P (ix2 k l) * S (ix2 k 0)

theorem xT_apply (l : Fin 128) : xT (F := Ideal) P S (ix2 0 l) = cmax (xcol P S l) * Scale.c448 := by
  pointwise [xT]
  rw [bot_f32]
  simp only [xv_apply]
  rfl

/-- The scales of a site are those of its columns. -/
theorem xScale_apply (l : Fin 128) : xScale (F := Ideal) P S (ix2 0 l) = gScale (xcol P S l) := by
  rw [xScale, pat_add, xExp_apply, xT_apply, ← (group_eq _).1]; rfl

theorem xInv_apply (l : Fin 128) :
    xInv (F := Ideal) P S (ix2 0 l) = Ideal.exp2 (0 - Scale.refE (cmax (xcol P S l) * Scale.c448)) := by
  rw [xInv, pat_sub, xExp_apply, xT_apply, ← (group_eq _).2]; rfl

/-- The codes of a site. -/
theorem xCode_apply (k l : Fin 128) : xCode (F := Ideal) P S (ix2 k l) = gCode (xcol P S l) (xcol P S l k) := by
  pointwise [xCode]
  rw [xInv_apply, xv_apply, lim_f32, nlim_f32]; rfl

/-- The codes of a site, transposed. -/
theorem xCodeT_apply (l k : Fin 128) : xCodeT (F := Ideal) P S (ix2 l k) = gCode (xcol P S l) (xcol P S l k) := by
  rw [← xCode_apply]
  pointwise [xCodeT]

/-- A tile put back, transposed. -/
theorem xBackT_apply (l k : Fin 128) :
    xBackT (F := Ideal) P S (ix2 l k) = gCode (xcol P S l) (xcol P S l k) * gScale (xcol P S l) := by
  rw [← xCode_apply, ← xScale_apply]
  pointwise [xBackT]

/-- A row of scales. -/
theorem xRow_apply (l : Fin 128) : xRow (F := Ideal) P S (ix3 0 0 l) = gScale (xcol P S l) := by
  rw [← xScale_apply, xRow]
  refine shapeCast_apply _ _ _ _ ?_
  rw [Shape.rowMajor_val_two, Shape.rowMajor_val_three]
  show 0 * 128 + l.val = (0 * 1 + 0) * 128 + l.val
  omega

end Cert.Xq
-- ==== Proof.XTile.lean ====
/- What one visit of the requantising body leaves in the blocks of codes and of values put back, in the kept rows of scales, and in
   the array of scales at the last visit. -/
module

public import proofs.«01_k».proof.Proof.XBlock
public import Idealize.ShloMosaic.Lib.WholeRead

@[expose] public section

set_option maxRecDepth 16384

noncomputable section

namespace Cert.Xq

open Cert.Group

open Idealize.ShloMosaic Idealize.ShloMosaic.TcCoe
open Cert.XKernelIdeal Cert.XKernelIdeal.Gen

/-- A value of a block: its code times the scale of its row and of its column's group. -/
def bVal (x0 : FVec Ideal S1024x2304 .fp8e4m3) (x1 : FVec Ideal S1024x18 .f32) (r : Fin 1024) (n : Fin 2304) : EReal :=
  x0 (ix2 r n) * x1 (ix2 r ⟨n.val / 128, by omega⟩)

/-- The group `g` of column `n` of a block: its 128 rows from `128 g`. -/
def bGrp (x0 : FVec Ideal S1024x2304 .fp8e4m3) (x1 : FVec Ideal S1024x18 .f32) (g : Fin 8) (n : Fin 2304) : Fin 128 → EReal :=
  fun k => bVal x0 x1 ⟨g.val * 128 + k.val, by omega⟩ n

/-- The new code of one element of a block. -/
def bCode (x0 : FVec Ideal S1024x2304 .fp8e4m3) (x1 : FVec Ideal S1024x18 .f32) (n : Fin 2304) (r : Fin 1024) : EReal :=
  gCode (bGrp x0 x1 ⟨r.val / 128, by omega⟩ n) (bVal x0 x1 r n)

/-- One element of a block put back from its new code. -/
def bBack (x0 : FVec Ideal S1024x2304 .fp8e4m3) (x1 : FVec Ideal S1024x18 .f32) (n : Fin 2304) (r : Fin 1024) : EReal :=
  bCode x0 x1 n r * gScale (bGrp x0 x1 ⟨r.val / 128, by omega⟩ n)

theorem mem_sites (g : Fin 8) (q : Fin 18) : (g, q) ∈ sites := by revert g q; decide

theorem mem_out (y : S2304x1024.Idx) : ∃ s ∈ sites, y ∈ (outR s.1 s.2).set := by
  have h0 : (y 0).val < 2304 := (y 0).isLt
  have h1 : (y 1).val < 1024 := (y 1).isLt
  refine ⟨(⟨(y 1).val / 128, by omega⟩, ⟨(y 0).val / 128, by omega⟩), mem_sites _ _, ?_⟩
  rw [Rect.mem_set_unit]
  intro a
  match a with
  | ⟨0, _⟩ => show 128 * ((y 0).val / 128) ≤ (y 0).val ∧ (y 0).val < 128 * ((y 0).val / 128) + 128; omega
  | ⟨1, _⟩ => show 128 * ((y 1).val / 128) ≤ (y 1).val ∧ (y 1).val < 128 * ((y 1).val / 128) + 128; omega

theorem mem_rowR (i : grid0.Coords) (s : Fin 16) (hs : s.val = (i 0).val) (g : Fin 8) (n : Fin 2304) :
    ∃ t ∈ sites, ix3 s g n ∈ (rowR i t.1 t.2).set := by
  refine ⟨(g, ⟨n.val / 128, by omega⟩), mem_sites _ _, ?_⟩
  rw [Rect.mem_set_unit]
  intro a
  match a with
  | ⟨0, _⟩ => show rowOff i ≤ s.val ∧ s.val < rowOff i + 1; rw [rowOff_eq]; omega
  | ⟨1, _⟩ => show g.val ≤ g.val ∧ g.val < g.val + 1; omega
  | ⟨2, _⟩ => show 128 * (n.val / 128) ≤ n.val ∧ n.val < 128 * (n.val / 128) + 128; omega

theorem in_emb (g : Fin 8) (q : Fin 18) (k l : Fin 128) :
    (inR g q).emb (ix2 k l) = ix2 (⟨g.val * 128 + k.val, by omega⟩ : Fin 1024) (⟨128 * q.val + l.val, by omega⟩ : Fin 2304) := by
  funext a
  match a with
  | ⟨0, _⟩ => apply Fin.ext; show 128 * g.val + 1 * k.val = g.val * 128 + k.val; omega
  | ⟨1, _⟩ => apply Fin.ext; show 128 * q.val + 1 * l.val = 128 * q.val + l.val; omega

theorem col_emb (g : Fin 8) (q : Fin 18) (k : Fin 128) :
    (colR g q).emb (ix2 k 0) = ix2 (⟨g.val * 128 + k.val, by omega⟩ : Fin 1024) q := by
  funext a
  match a with
  | ⟨0, _⟩ => apply Fin.ext; show 128 * g.val + 1 * k.val = g.val * 128 + k.val; omega
  | ⟨1, _⟩ => apply Fin.ext; show q.val + 1 * 0 = q.val; omega

theorem out_emb (g : Fin 8) (q : Fin 18) (l k : Fin 128) :
    (outR g q).emb (ix2 l k) = ix2 (⟨128 * q.val + l.val, by omega⟩ : Fin 2304) (⟨g.val * 128 + k.val, by omega⟩ : Fin 1024) := by
  funext a
  match a with
  | ⟨0, _⟩ => apply Fin.ext; show 128 * q.val + 1 * l.val = 128 * q.val + l.val; omega
  | ⟨1, _⟩ => apply Fin.ext; show 128 * g.val + 1 * k.val = g.val * 128 + k.val; omega

theorem row_emb (i : grid0.Coords) (g : Fin 8) (q : Fin 18) (l : Fin 128) :
    (rowR i g q).emb (ix3 0 0 l)
      = ix3 (⟨rowOff i, by have := rowOff_lt i; omega⟩ : Fin 16) g (⟨128 * q.val + l.val, by omega⟩ : Fin 2304) := by
  funext a
  match a with
  | ⟨0, _⟩ => apply Fin.ext; show rowOff i + 1 * 0 = rowOff i; omega
  | ⟨1, _⟩ => apply Fin.ext; show g.val + 1 * 0 = g.val; omega
  | ⟨2, _⟩ => apply Fin.ext; show 128 * q.val + 1 * l.val = 128 * q.val + l.val; omega

theorem div128 (g : Fin 8) (k : Fin 128) (h : (g.val * 128 + k.val) / 128 < 8) : (⟨(g.val * 128 + k.val) / 128, h⟩ : Fin 8) = g :=
  Fin.ext (by show (g.val * 128 + k.val) / 128 = g.val; omega)

theorem bCode_at (x0 : FVec Ideal S1024x2304 .fp8e4m3) (x1 : FVec Ideal S1024x18 .f32) (n : Fin 2304) (g : Fin 8) (k : Fin 128)
    (h : g.val * 128 + k.val < 1024) : bCode x0 x1 n ⟨g.val * 128 + k.val, h⟩ = gCode (bGrp x0 x1 g n) (bGrp x0 x1 g n k) := by
  rw [bCode, div128]; rfl

theorem bBack_at (x0 : FVec Ideal S1024x2304 .fp8e4m3) (x1 : FVec Ideal S1024x18 .f32) (n : Fin 2304) (g : Fin 8) (k : Fin 128)
    (h : g.val * 128 + k.val < 1024) :
    bBack x0 x1 n ⟨g.val * 128 + k.val, h⟩ = gCode (bGrp x0 x1 g n) (bGrp x0 x1 g n k) * gScale (bGrp x0 x1 g n) := by
  rw [bBack, bCode_at, div128]

section visit

variable (arg1 : Memref sig .tc .vmem S1024x2304 .fp8e4m3) (harg1 : arg1.IsWhole)
  (arg2 : Memref sig .tc .vmem S1024x18 .f32) (harg2 : arg2.IsWhole)
  (x0 : FVec Ideal S1024x2304 .fp8e4m3) (x1 : FVec Ideal S1024x18 .f32)

/-- A column of a loaded tile's values is a group of the block. -/
theorem xcol_tiles (g : Fin 8) (q : Fin 18) (l : Fin 128) :
    xcol (tilesP (F := Ideal) arg1 harg1 x0 g q) (tilesS (F := Ideal) arg2 harg2 x1 g q) l = bGrp x0 x1 g ⟨128 * q.val + l.val, by omega⟩ := by
  funext k
  have hP : tilesP (F := Ideal) arg1 harg1 x0 g q (ix2 k l) = x0 (ix2 ⟨g.val * 128 + k.val, by omega⟩ ⟨128 * q.val + l.val, by omega⟩) :=
    (harg1.readAt_unread (Val := Elt Ideal) x0 _ _).trans (congrArg x0 (in_emb g q k l))
  have hS : tilesS (F := Ideal) arg2 harg2 x1 g q (ix2 k 0) = x1 (ix2 ⟨g.val * 128 + k.val, by omega⟩ q) :=
    (harg2.readAt_unread (Val := Elt Ideal) x1 _ _).trans (congrArg x1 (col_emb g q k))
  rw [xcol, hP, hS, bGrp, bVal]
  refine congrArg (fun z : Fin 18 => x0 _ * x1 (ix2 _ z)) (Fin.ext ?_)
  show q.val = (128 * q.val + l.val) / 128
  omega

/-- The stores of a visit leave the block's new codes. -/
theorem codes_read {arg3 : Memref sig .tc .vmem S2304x1024 .fp8e4m3} (f : arg3.view.ty.Contents (Elt Ideal)) :
    arg3.view.read (Elt Ideal) (arg3.view.writes (Elt Ideal) f (codesL (F := Ideal) (tilesP arg1 harg1 x0) (tilesS arg2 harg2 x1)))
      = fun y : S2304x1024.Idx => bCode x0 x1 (y 0) (y 1) := by
  funext y
  refine View.read_writes_apply_of_pieces (Val := Elt Ideal) arg3.view f (fun y : S2304x1024.Idx => bCode x0 x1 (y 0) (y 1)) _ ?_ y ?_
  · intro p hp x
    obtain ⟨⟨g, c⟩, -, rfl⟩ := List.mem_map.mp hp
    obtain ⟨l, k, rfl⟩ : ∃ (l : Fin 128) (k : Fin 128), x = ix2 l k := ⟨x 0, x 1, eq_ix2 x⟩
    refine (xCodeT_apply _ _ l k).trans ?_
    refine Eq.trans ?_ (congrArg (fun y : S2304x1024.Idx => bCode x0 x1 (y 0) (y 1)) (out_emb g c l k)).symm
    show _ = bCode x0 x1 ⟨128 * c.val + l.val, _⟩ ⟨g.val * 128 + k.val, _⟩
    rw [bCode_at, xcol_tiles]
  · obtain ⟨s, hs, hy⟩ := mem_out y
    exact ⟨_, List.mem_map.mpr ⟨s, hs, rfl⟩, hy⟩

/-- The stores of a visit leave the block put back. -/
theorem back_read {arg5 : Memref sig .tc .vmem S2304x1024 .bf16} (f : arg5.view.ty.Contents (Elt Ideal)) :
    arg5.view.read (Elt Ideal) (arg5.view.writes (Elt Ideal) f (backL (F := Ideal) (tilesP arg1 harg1 x0) (tilesS arg2 harg2 x1)))
      = fun y : S2304x1024.Idx => bBack x0 x1 (y 0) (y 1) := by
  funext y
  refine View.read_writes_apply_of_pieces (Val := Elt Ideal) arg5.view f (fun y : S2304x1024.Idx => bBack x0 x1 (y 0) (y 1)) _ ?_ y ?_
  · intro p hp x
    obtain ⟨⟨g, c⟩, -, rfl⟩ := List.mem_map.mp hp
    obtain ⟨l, k, rfl⟩ : ∃ (l : Fin 128) (k : Fin 128), x = ix2 l k := ⟨x 0, x 1, eq_ix2 x⟩
    refine (xBackT_apply _ _ l k).trans ?_
    refine Eq.trans ?_ (congrArg (fun y : S2304x1024.Idx => bBack x0 x1 (y 0) (y 1)) (out_emb g c l k)).symm
    show _ = bBack x0 x1 ⟨128 * c.val + l.val, _⟩ ⟨g.val * 128 + k.val, _⟩
    rw [bBack_at, xcol_tiles]
  · obtain ⟨s, hs, hy⟩ := mem_out y
    exact ⟨_, List.mem_map.mpr ⟨s, hs, rfl⟩, hy⟩

variable {arg6 : Memref sig .tc .vmem S16x8x2304 .f32} (harg6 : arg6.IsWhole) (xs : FVec Ideal S16x8x2304 .f32) (i : grid0.Coords)

/-- What the kept rows of scales read after a visit. -/
def kept : FVec Ideal S16x8x2304 .f32 :=
  arg6.view.read (Elt Ideal) (arg6.view.writes (Elt Ideal) (harg6.unread xs) (rowsL (F := Ideal) (tilesP arg1 harg1 x0) (tilesS arg2 harg2 x1) i))

/-- The point's own rows hold the scales of its block. -/
theorem kept_own (s : Fin 16) (hs : s.val = (i 0).val) (g : Fin 8) (n : Fin 2304) :
    kept arg1 harg1 arg2 harg2 x0 x1 harg6 xs i (ix3 s g n) = gScale (bGrp x0 x1 g n) := by
  refine View.read_writes_apply_of_pieces (Val := Elt Ideal) arg6.view _ (fun y : S16x8x2304.Idx => gScale (bGrp x0 x1 (y 1) (y 2))) _ ?_ (ix3 s g n) ?_
  · intro p hp x
    obtain ⟨⟨g, c⟩, -, rfl⟩ := List.mem_map.mp hp
    obtain ⟨l, rfl⟩ : ∃ l : Fin 128, x = ix3 0 0 l := ⟨x 2, by
      have h0 : (x 0).val < 1 := (x 0).isLt
      have h1 : (x 1).val < 1 := (x 1).isLt
      funext a
      match a with
      | ⟨0, _⟩ => exact Fin.ext (by show (x 0).val = 0; omega)
      | ⟨1, _⟩ => exact Fin.ext (by show (x 1).val = 0; omega)
      | ⟨2, _⟩ => rfl⟩
    refine (xRow_apply _ _ l).trans ?_
    refine Eq.trans ?_ (congrArg (fun y : S16x8x2304.Idx => gScale (bGrp x0 x1 (y 1) (y 2))) (row_emb i g c l)).symm
    rw [xcol_tiles]
    rfl
  · obtain ⟨t, ht, hy⟩ := mem_rowR i s hs g n
    exact ⟨_, List.mem_map.mpr ⟨t, ht, rfl⟩, hy⟩

/-- The other rows are what they were. -/
theorem kept_other (s : Fin 16) (hs : s.val ≠ (i 0).val) (g : Fin 8) (n : Fin 2304) :
    kept arg1 harg1 arg2 harg2 x0 x1 harg6 xs i (ix3 s g n) = xs (ix3 s g n) := by
  refine (View.read_writes_apply_of_forall_not_mem (Val := Elt Ideal) arg6.view _ (ix3 s g n) _ ?_).trans
    (congrFun (Memref.IsWhole.read_unread (Val := Elt Ideal) harg6 xs) (ix3 s g n))
  intro p hp hy
  obtain ⟨⟨g', c⟩, -, rfl⟩ := List.mem_map.mp hp
  rw [Rect.mem_set_unit] at hy
  have h : rowOff i ≤ s.val ∧ s.val < rowOff i + 1 := hy 0
  rw [rowOff_eq] at h
  omega

/-- The array of scales is the kept rows of the twelve points, transposed. -/
theorem pay2_apply (v : FVec Ideal S16x8x2304 .f32) (n : Fin 2304) (j : Fin 96) :
    k0_pay2 (F := Ideal) v (ix2 n j) = v (ix3 ⟨j.val / 8, by omega⟩ ⟨j.val % 8, by omega⟩ n) := by
  rw [k0_pay2]
  refine (extractStridedSlice_apply _ _ _ (ix2 n j) (ix2 n ⟨j.val, by omega⟩) ?_).trans ?_
  · intro a
    match a with
    | ⟨0, _⟩ => show n.val = 0 + n.val; omega
    | ⟨1, _⟩ => show j.val = 0 + j.val; omega
  refine (transpose_apply _ _ _ _ (ix2 (⟨j.val, by omega⟩ : Fin 128) n) ?_).trans ?_
  · intro a
    match a with
    | ⟨0, _⟩ => rfl
    | ⟨1, _⟩ => rfl
  refine shapeCast_apply v _ _ _ ?_
  rw [Shape.rowMajor_val_two, Shape.rowMajor_val_three]
  show (j.val / 8 * 8 + j.val % 8) * 2304 + n.val = j.val * 2304 + n.val
  omega

/-- The last visit's store of the scales. -/
theorem scales_read {arg4 : Memref sig .tc .vmem S2304x96 .f32} (f : arg4.view.ty.Contents (Elt Ideal)) (n : Fin 2304) (j : Fin 96) :
    arg4.view.read (Elt Ideal) (arg4.view.writes (Elt Ideal) f [⟨Rect.unit ![0, 0] S2304x96.size inb_S2304x96_S2304x96_0_0,
          k0_pay2 (View.readAt (Elt Ideal) arg6.view (Rect.unit ![0, 0, 0] S16x8x2304.size inb_S16x8x2304_S16x8x2304_0_0_0).toLoadRect
            (arg6.view.writes (Elt Ideal) (harg6.unread xs) (rowsL (F := Ideal) (tilesP arg1 harg1 x0) (tilesS arg2 harg2 x1) i)))⟩]) (ix2 n j)
      = kept arg1 harg1 arg2 harg2 x0 x1 harg6 xs i (ix3 ⟨j.val / 8, by omega⟩ ⟨j.val % 8, by omega⟩ n) := by
  have e : (Rect.unit (s := S2304x96) ![0, 0] S2304x96.size inb_S2304x96_S2304x96_0_0).emb (ix2 n j) = ix2 n j := by
    funext a
    match a with
    | ⟨0, _⟩ => apply Fin.ext; show 0 + 1 * n.val = n.val; omega
    | ⟨1, _⟩ => apply Fin.ext; show 0 + 1 * j.val = j.val; omega
  refine (congrArg _ e.symm).trans ?_
  refine (View.read_writes_cons_emb arg4.view f _ _ _ _).trans ?_
  refine (pay2_apply _ n j).trans ?_
  rw [View.readAt_eq_ld]
  refine congrArg (kept arg1 harg1 arg2 harg2 x0 x1 harg6 xs i) ?_
  funext a
  match a with
  | ⟨0, _⟩ => apply Fin.ext; show 0 + 1 * (j.val / 8) = j.val / 8; omega
  | ⟨1, _⟩ => apply Fin.ext; show 0 + 1 * (j.val % 8) = j.val % 8; omega
  | ⟨2, _⟩ => apply Fin.ext; show 0 + 1 * n.val = n.val; omega

end visit

end Cert.Xq
-- ==== Proof.XRefRead.lean ====
/- The requantising reference's three arrays, read at an index over the extended reals. -/
module

public import proofs.«01_k».proof.Proof.Group
public import proofs.«01_k».proof.Proof.Layout
public import proofs.«01_k».proof.Proof.Gen.XReferenceIdeal.Value

@[expose] public section

set_option maxRecDepth 16384

noncomputable section

namespace Cert.Xq

open Cert.Group

open Idealize.ShloMosaic Idealize.ShloMosaic.TcCoe
open Cert.XReferenceIdeal Cert.XReferenceIdeal.Gen

variable (C : FVec Ideal S12288x2304 .fp8e4m3) (Sc : FVec Ideal S12288x18 .f32)

/-- A value: its code times the scale of its row and of its column's group. -/
def aVal (r : Fin 12288) (n : Fin 2304) : EReal := C (ix2 r n) * Sc (ix2 r ⟨n.val / 128, by omega⟩)

/-- The group `g` of column `n`: its 128 rows from `128 g`. -/
def aGrp (g : Fin 96) (n : Fin 2304) : Fin 128 → EReal := fun k => aVal C Sc ⟨g.val * 128 + k.val, by omega⟩ n

/-- The new code of one element, transposed. -/
def aCode (n : Fin 2304) (r : Fin 12288) : EReal := gCode (aGrp C Sc ⟨r.val / 128, by omega⟩ n) (aVal C Sc r n)

/-- One element put back from its new code, transposed. -/
def aBack (n : Fin 2304) (r : Fin 12288) : EReal := aCode C Sc n r * gScale (aGrp C Sc ⟨r.val / 128, by omega⟩ n)

section layout

variable {α : Type} {n a b c : ℕ}

/-- Columns split into groups of `b`. -/
theorem splitCol_apply (x : (⟨2, ![a, n]⟩ : Shape).Idx → α) (h : (⟨2, ![a, n]⟩ : Shape).ShapeCasts ⟨3, ![a, b, c]⟩) (hn : n = b * c)
    (r : Fin a) (g : Fin b) (k : Fin c) (hk : g.val * c + k.val < n) :
    shapeCast ⟨3, ![a, b, c]⟩ x h (ix3 r g k) = x (ix2 r ⟨g.val * c + k.val, hk⟩) := by
  refine shapeCast_apply x h _ _ ?_
  rw [Shape.rowMajor_val_two, Shape.rowMajor_val_three]
  show r.val * n + (g.val * c + k.val) = (r.val * b + g.val) * c + k.val
  rw [hn, Nat.add_mul, Nat.mul_assoc, Nat.add_assoc]

/-- Groups of columns joined. -/
theorem joinCol_apply (x : (⟨3, ![a, b, c]⟩ : Shape).Idx → α) (h : (⟨3, ![a, b, c]⟩ : Shape).ShapeCasts ⟨2, ![a, n]⟩) (hn : n = b * c)
    (r : Fin a) (q : Fin n) (g : Fin b) (k : Fin c) (hq : q.val = g.val * c + k.val) :
    shapeCast ⟨2, ![a, n]⟩ x h (ix2 r q) = x (ix3 r g k) := by
  refine shapeCast_apply x h _ _ ?_
  rw [Shape.rowMajor_val_two, Shape.rowMajor_val_three]
  show (r.val * b + g.val) * c + k.val = r.val * n + q.val
  rw [hq, Nat.add_mul, Nat.mul_assoc, Nat.add_assoc, ← hn]

/-- One value per row and group, spread over the group's columns. -/
theorem spreadCol_apply (x : (⟨2, ![a, b]⟩ : Shape).Idx → α) (h : (⟨2, ![a, b]⟩ : Shape).ShapeCasts ⟨3, ![a, b, 1]⟩)
    (hb : (⟨3, ![a, b, 1]⟩ : Shape).Broadcasts ⟨3, ![a, b, c]⟩) (r : Fin a) (g : Fin b) (k : Fin c) :
    broadcastTo ⟨3, ![a, b, c]⟩ (shapeCast ⟨3, ![a, b, 1]⟩ x h) hb (ix3 r g k) = x (ix2 r g) := by
  rw [broadcastTo_apply _ hb (ix3 r g k) (ix3 r g 0)]
  · refine shapeCast_apply x h _ _ ?_
    rw [Shape.rowMajor_val_two, Shape.rowMajor_val_three]
    show r.val * b + g.val = (r.val * b + g.val) * 1 + 0
    rw [Nat.mul_one, Nat.add_zero]
  · intro e
    match e with
    | ⟨0, _⟩ =>
      show r.val = if a = 1 then 0 else r.val
      split
      · next h1 => have := r.isLt; omega
      · rfl
    | ⟨1, _⟩ =>
      show g.val = if b = 1 then 0 else g.val
      split
      · next h1 => have := g.isLt; omega
      · rfl
    | ⟨2, _⟩ => exact (if_pos rfl).symm

/-- Rows and columns exchanged. -/
theorem swap_apply (x : (⟨2, ![a, c]⟩ : Shape).Idx → α) (h : (⟨2, ![a, c]⟩ : Shape).Transposes [1, 0] ⟨2, ![c, a]⟩) (q : Fin c) (r : Fin a) :
    transpose ⟨2, ![c, a]⟩ [1, 0] x h (ix2 q r) = x (ix2 r q) := by
  refine transpose_apply _ x h (ix2 q r) (ix2 r q) ?_
  intro e
  match e with
  | ⟨0, _⟩ => rfl
  | ⟨1, _⟩ => rfl

theorem mul_at {s : Shape} {φ : FTy} (x y : FVec Ideal s φ) (i : s.Idx) : mulf x y i = x i * y i := rfl

theorem widen_at {s : Shape} {φ ψ : FTy} (x : FVec Ideal s φ) (h) (i : s.Idx) : extf (F := Ideal) ψ x h i = x i := rfl

theorem narrow_at {s : Shape} {φ ψ : FTy} (x : FVec Ideal s φ) (h) (i : s.Idx) : truncf (F := Ideal) ψ x h i = x i := rfl

end layout

/-- The named constant is the natural logarithm of two. -/
theorem ln2_named : Named.named (F := Ideal) Cert.XReferenceIdeal.κ "ln2" (φ := .f32) 0x3F317218#32 = ((Real.log 2 : ℝ) : EReal) :=
  IdealRules.named_const.ideal_named_scalar _ _ _ _ rfl

theorem refIn_apply (g : Fin 96) (k : Fin 128) (n : Fin 2304) : k0_pay4 (F := Ideal) C Sc (ix3 g k n) = aGrp C Sc g n k := by
  rw [k0_pay4]
  refine (Layout.split_apply _ _ g k n (by omega)).trans ?_
  refine (joinCol_apply _ _ (by norm_num) _ n ⟨n.val / 128, by omega⟩ ⟨n.val % 128, by omega⟩
    (by show n.val = n.val / 128 * 128 + n.val % 128; omega)).trans ?_
  rw [mul_at, splitCol_apply _ _ (by norm_num) _ _ _ (by show n.val / 128 * 128 + n.val % 128 < 2304; omega), spreadCol_apply, widen_at, aGrp, aVal]
  refine congrArg (fun z : Fin 2304 => C (ix2 _ z) * _) (Fin.ext ?_)
  show n.val / 128 * 128 + n.val % 128 = n.val
  omega

/-- The reference's exponent of a group. -/
theorem refE_apply (g : Fin 96) (n : Fin 2304) : k0_pay5 (F := Ideal) C Sc (ix2 g n) = Scale.refE (cmax (aGrp C Sc g n) * Scale.c448) := by
  rw [k0_pay5, expOf_apply _ ln2_named, over448_apply]
  refine congrArg (fun z : EReal => Scale.refE (z * Scale.c448)) ?_
  refine (Layout.groupMax_apply _ _ _ _ _ g n).trans ?_
  rw [bot_f32, cmax]
  refine congrArg (fun f : Fin 128 → EReal => (Finset.univ : Finset (Fin 128)).fold max ⊥ f) (funext fun k => ?_)
  rw [← refIn_apply]; exact absOf_apply _ _

/-- The reference's scale of a group. -/
theorem refScale_apply (g : Fin 96) (n : Fin 2304) : k0_pay6 (F := Ideal) C Sc (ix2 g n) = gScale (aGrp C Sc g n) := by
  rw [gScale, ← refE_apply]; exact expTwo_apply _ _

/-- The reference's code, groups of rows apart. -/
theorem refCode3_apply (g : Fin 96) (k : Fin 128) (n : Fin 2304) :
    k0_pay7 (F := Ideal) C Sc (ix3 g k n) = gCode (aGrp C Sc g n) (aGrp C Sc g n k) := by
  rw [k0_pay7]
  refine (clip_apply _ _ _).trans ?_
  rw [refIn_apply, gCode, ← refE_apply, ← invOf_apply]
  refine congrArg (fun z : EReal => min ((448 : ℝ) : EReal) (max ((-448 : ℝ) : EReal) (aGrp C Sc g n k * z))) ?_
  exact Layout.spread_apply _ _ _ g k n

theorem grp_self (r : Fin 12288) (n : Fin 2304) :
    aGrp C Sc ⟨r.val / 128, by omega⟩ n ⟨r.val % 128, by omega⟩ = aVal C Sc r n := by
  refine congrArg (fun z => aVal C Sc z n) (Fin.ext ?_)
  show r.val / 128 * 128 + r.val % 128 = r.val
  omega

/-- The reference's array of codes. -/
theorem refCode_apply (n : Fin 2304) (r : Fin 12288) : k0_pay1 (F := Ideal) (k0_pay7 (F := Ideal) C Sc) (ix2 n r) = aCode C Sc n r := by
  rw [k0_pay1, aCode, ← grp_self C Sc r n, ← refCode3_apply]
  rw [narrow_at]
  refine (swap_apply _ _ n r).trans ?_
  exact Layout.join_apply _ _ r n _ _ (by show r.val = r.val / 128 * 128 + r.val % 128; omega)

/-- The reference's array of scales. -/
theorem refScales_apply (n : Fin 2304) (g : Fin 96) : k0_pay2 (F := Ideal) (k0_pay6 (F := Ideal) C Sc) (ix2 n g) = gScale (aGrp C Sc g n) := by
  rw [k0_pay2, ← refScale_apply]
  exact swap_apply _ _ n g

/-- The reference's array of values put back. -/
theorem refBack_apply (n : Fin 2304) (r : Fin 12288) : k0_pay3 (F := Ideal) (k0_pay8 (F := Ideal) C Sc) (ix2 n r) = aBack C Sc n r := by
  rw [k0_pay3, aBack, aCode, ← grp_self C Sc r n, ← refCode3_apply, ← refScale_apply]
  refine (swap_apply _ _ n r).trans ?_
  refine (Layout.join_apply _ _ r n ⟨r.val / 128, by omega⟩ ⟨r.val % 128, by omega⟩ (by show r.val = r.val / 128 * 128 + r.val % 128; omega)).trans ?_
  rw [k0_pay8, mul_at, widen_at, narrow_at, Layout.spread_apply, narrow_at]

end Cert.Xq
-- ==== Proof.XArrays.lean ====
/- The staged blocks of the requantising kernel as reads of the argument arrays. -/
module

public import proofs.«01_k».proof.Proof.XTile
public import proofs.«01_k».proof.Proof.XRefRead

@[expose] public section

set_option maxRecDepth 16384

noncomputable section

namespace Cert.Xq

open Cert.Group

open Idealize.ShloMosaic Idealize.ShloMosaic.TcCoe
open Cert.XKernelIdeal Cert.XKernelIdeal.Gen

theorem index_0 : ∀ t : Fin cfg0.N, win0_0.index t 0 = t.val ∧ win0_0.index t 1 = 0 :=
  (by decide +kernel : ∀ t : Fin grid0.N, win0_0.index t 0 = t.val ∧ win0_0.index t 1 = 0)
theorem index_1 : ∀ t : Fin cfg0.N, win0_1.index t 0 = t.val ∧ win0_1.index t 1 = 0 :=
  (by decide +kernel : ∀ t : Fin grid0.N, win0_1.index t 0 = t.val ∧ win0_1.index t 1 = 0)
theorem index_2 : ∀ t : Fin cfg0.N, win0_2.index t 0 = 0 ∧ win0_2.index t 1 = t.val :=
  (by decide +kernel : ∀ t : Fin grid0.N, win0_2.index t 0 = 0 ∧ win0_2.index t 1 = t.val)
theorem index_3 : ∀ t : Fin cfg0.N, win0_3.index t 0 = 0 ∧ win0_3.index t 1 = 0 :=
  (by decide +kernel : ∀ t : Fin grid0.N, win0_3.index t 0 = 0 ∧ win0_3.index t 1 = 0)
theorem index_4 : ∀ t : Fin cfg0.N, win0_4.index t 0 = 0 ∧ win0_4.index t 1 = t.val :=
  (by decide +kernel : ∀ t : Fin grid0.N, win0_4.index t 0 = 0 ∧ win0_4.index t 1 = t.val)

theorem coord_0 : ∀ t : Fin cfg0.N, (grid0.coords t 0).val = t.val :=
  (by decide +kernel : ∀ t : Fin grid0.N, (grid0.coords t 0).val = t.val)

theorem lt_N (t : Fin cfg0.N) : t.val < 12 := lt_of_lt_of_eq t.isLt N_0

variable (m : (ℓ : Loc nD τ sig) → Buf (Elt Ideal) ℓ) (c : Dev nD)

/-- The codes, as launched. -/
abbrev CA : FVec Ideal S12288x2304 .fp8e4m3 := m ((c : Thread nD τ).loc main_arg0)

/-- Their scales, as launched. -/
abbrev SA : FVec Ideal S12288x18 .f32 := m ((c : Thread nD τ).loc main_arg1)

/-- The block of codes at a point. -/
abbrev cblk (t : Fin cfg0.N) : FVec Ideal S1024x2304 .fp8e4m3 := iblk m c 0 t

/-- The block of scales at a point. -/
abbrev sblk (t : Fin cfg0.N) : FVec Ideal S1024x18 .f32 := iblk m c 1 t

theorem blockC (t : Fin cfg0.N) (r : Fin 1024) (n : Fin 2304) :
    cblk m c t (ix2 r n) = CA m c (ix2 ⟨t.val * 1024 + r.val, by have := lt_N t; omega⟩ n) := by
  unfold cblk iblk
  rw [View.read_apply]
  show V m c main_arg0 _ = m (c.tc.loc main_arg0) _
  unfold V
  congr 1
  funext a
  apply Fin.ext
  match a with
  | ⟨0, _⟩ => show win0_0.index t 0 * 1024 + 1 * r.val = t.val * 1024 + r.val; rw [(index_0 t).1]; omega
  | ⟨1, _⟩ => show win0_0.index t 1 * 2304 + 1 * n.val = n.val; rw [(index_0 t).2]; omega

theorem blockS (t : Fin cfg0.N) (r : Fin 1024) (q : Fin 18) :
    sblk m c t (ix2 r q) = SA m c (ix2 ⟨t.val * 1024 + r.val, by have := lt_N t; omega⟩ q) := by
  unfold sblk iblk
  rw [View.read_apply]
  show V m c main_arg1 _ = m (c.tc.loc main_arg1) _
  unfold V
  congr 1
  funext a
  apply Fin.ext
  match a with
  | ⟨0, _⟩ => show win0_1.index t 0 * 1024 + 1 * r.val = t.val * 1024 + r.val; rw [(index_1 t).1]; omega
  | ⟨1, _⟩ => show win0_1.index t 1 * 18 + 1 * q.val = q.val; rw [(index_1 t).2]; omega

theorem blockVal (t : Fin cfg0.N) (r : Fin 1024) (n : Fin 2304) :
    bVal (cblk m c t) (sblk m c t) r n = aVal (CA m c) (SA m c) ⟨t.val * 1024 + r.val, by have := lt_N t; omega⟩ n := by
  rw [bVal, aVal, blockC, blockS]

theorem blockGrp (t : Fin cfg0.N) (g : Fin 8) (n : Fin 2304) :
    bGrp (cblk m c t) (sblk m c t) g n = aGrp (CA m c) (SA m c) ⟨t.val * 8 + g.val, by have := lt_N t; omega⟩ n := by
  funext k
  refine (blockVal m c t _ n).trans ?_
  refine congrArg (fun z => aVal (CA m c) (SA m c) z n) (Fin.ext ?_)
  show t.val * 1024 + (g.val * 128 + k.val) = (t.val * 8 + g.val) * 128 + k.val
  omega

theorem rowGrp (t : Fin cfg0.N) (r : Fin 1024) (n : Fin 2304) :
    bGrp (cblk m c t) (sblk m c t) ⟨r.val / 128, by omega⟩ n
      = aGrp (CA m c) (SA m c) ⟨(t.val * 1024 + r.val) / 128, by have := lt_N t; omega⟩ n := by
  rw [blockGrp]
  refine congrArg (fun z => aGrp (CA m c) (SA m c) z n) (Fin.ext ?_)
  show t.val * 8 + r.val / 128 = (t.val * 1024 + r.val) / 128
  omega

theorem blockCode (t : Fin cfg0.N) (n : Fin 2304) (r : Fin 1024) :
    bCode (cblk m c t) (sblk m c t) n r = aCode (CA m c) (SA m c) n ⟨t.val * 1024 + r.val, by have := lt_N t; omega⟩ := by
  rw [bCode, aCode, rowGrp, blockVal]

theorem blockBack (t : Fin cfg0.N) (n : Fin 2304) (r : Fin 1024) :
    bBack (cblk m c t) (sblk m c t) n r = aBack (CA m c) (SA m c) n ⟨t.val * 1024 + r.val, by have := lt_N t; omega⟩ := by
  rw [bBack, aBack, rowGrp, blockCode]

/-! ## The kept rows of scales -/

/-- The scales of the first `k` points' blocks are kept. -/
def Kept (k : ℕ) (xs : FVec Ideal S16x8x2304 .f32) : Prop :=
  ∀ (s : Fin 16) (g : Fin 8) (n : Fin 2304) (h : s.val < 12), s.val < k →
    xs (ix3 s g n) = gScale (aGrp (CA m c) (SA m c) ⟨s.val * 8 + g.val, by omega⟩ n)

theorem Kept.zero (xs : FVec Ideal S16x8x2304 .f32) : Kept m c 0 xs := fun _ _ _ _ h => absurd h (Nat.not_lt_zero _)

section visit

variable (arg1 : Memref sig .tc .vmem S1024x2304 .fp8e4m3) (harg1 : arg1.IsWhole)
  (arg2 : Memref sig .tc .vmem S1024x18 .f32) (harg2 : arg2.IsWhole)
  {arg6 : Memref sig .tc .vmem S16x8x2304 .f32} (harg6 : arg6.IsWhole)

/-- A point keeps the rows before it and adds its own. -/
theorem Kept.step (t : Fin cfg0.N) (xs : FVec Ideal S16x8x2304 .f32) (h : Kept m c t.val xs) :
    Kept m c (t.val + 1) (kept arg1 harg1 arg2 harg2 (cblk m c t) (sblk m c t) harg6 xs (grid0.coords t)) := by
  intro s g n hs hk
  by_cases e : s.val = t.val
  · rw [kept_own arg1 harg1 arg2 harg2 _ _ harg6 xs _ s (by rw [coord_0]; exact e) g n, blockGrp]
    refine congrArg (fun z => gScale (aGrp (CA m c) (SA m c) z n)) (Fin.ext ?_)
    show t.val * 8 + g.val = s.val * 8 + g.val
    rw [e]
  · rw [kept_other arg1 harg1 arg2 harg2 _ _ harg6 xs _ s (by rw [coord_0]; exact e) g n]
    exact h s g n hs (by omega)

/-- What the array of scales ends holding. -/
def sclArr : FVec Ideal S2304x96 .f32 := fun y : S2304x96.Idx => gScale (aGrp (CA m c) (SA m c) (y 1) (y 0))

/-- The last point's store of the scales is all of them. -/
theorem scales_last (t : Fin cfg0.N) (ht : t.val % 12 = 11) (xs : FVec Ideal S16x8x2304 .f32) (h : Kept m c t.val xs)
    {arg4 : Memref sig .tc .vmem S2304x96 .f32} (f : arg4.view.ty.Contents (Elt Ideal)) :
    arg4.view.read (Elt Ideal) (arg4.view.writes (Elt Ideal) f [⟨Rect.unit ![0, 0] S2304x96.size inb_S2304x96_S2304x96_0_0,
          k0_pay2 (View.readAt (Elt Ideal) arg6.view (Rect.unit ![0, 0, 0] S16x8x2304.size inb_S16x8x2304_S16x8x2304_0_0_0).toLoadRect
            (arg6.view.writes (Elt Ideal) (harg6.unread xs) (rowsL (F := Ideal) (tilesP arg1 harg1 (cblk m c t)) (tilesS arg2 harg2 (sblk m c t)) (grid0.coords t))))⟩])
      = sclArr m c := by
  funext y
  obtain ⟨n, j, rfl⟩ : ∃ (n : Fin 2304) (j : Fin 96), y = ix2 n j := ⟨y 0, y 1, eq_ix2 y⟩
  have ht' := lt_N t
  refine (scales_read arg1 harg1 arg2 harg2 _ _ harg6 xs _ f n j).trans ?_
  refine (Kept.step m c arg1 harg1 arg2 harg2 harg6 t xs h _ _ n (by show j.val / 8 < 12; omega) (by show j.val / 8 < t.val + 1; omega)).trans ?_
  refine congrArg (fun z => gScale (aGrp (CA m c) (SA m c) z n)) (Fin.ext ?_)
  show j.val / 8 * 8 + j.val % 8 = j.val
  omega

end visit

end Cert.Xq
-- ==== Proof.XIFrame.lean ====
/- The run of the ideal requantising kernel: what each point leaves in the outputs' staged blocks, the kept rows of scales carried from
   point to point in the invariant, and the three arrays after the run. -/
module

public import proofs.«01_k».proof.Proof.XArrays
public import Idealize.ShloMosaic.Lib.Claim

@[expose] public section

set_option maxRecDepth 16384

noncomputable section

namespace Cert.Xq

open Cert.XKernelIdeal Cert.XKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The pipeline's proof data -/

/-- What is carried from point to point: the kept rows hold the scales of the points before, and the generator register. -/
def carried (c : Dev nD) (k : ℕ) : sProp 𝕄 :=
  iprop((∃ xs, owns (c : Thread nD τ) scM0_0 fullShare xs ∗ ⌜Kept m c k xs⌝) ∗ (∃ r, prngReg c r))

/-- The block of codes a point leaves. -/
def codesOut (c : Dev nD) (t : Fin cfg0.N) : FVec Ideal S2304x1024 .fp8e4m3 :=
  fun y : S2304x1024.Idx => bCode (cblk m c t) (sblk m c t) (y 0) (y 1)

/-- The block of values put back a point leaves. -/
def backOut (c : Dev nD) (t : Fin cfg0.N) : FVec Ideal S2304x1024 .bf16 :=
  fun y : S2304x1024.Idx => bBack (cblk m c t) (sblk m c t) (y 0) (y 1)

/-- The proof data of the one pipeline on core `c`: the arrays as the region finds them; after the body at a point each input's buffer
    at its block, the outputs at their values; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => codesOut m c t
    | ⟨3, _⟩ => sclArr m c
    | ⟨4, _⟩ => backOut m c t
  Φ k := carried m c k.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = codesOut m c t := by dsimp only [dats]
theorem after0_3 (c : Dev nD) (t : Fin cfg0.N) : (dats m 0 c).after 3 t = sclArr m c := by dsimp only [dats]
theorem after0_4 (c : Dev nD) (t : Fin cfg0.N) : (dats m 0 c).after 4 t = backOut m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The window of scales is idle before the last point, -/
theorem idle3 (t : Fin cfg0.N) (h : ¬ t.val % 12 = 11) : cfg0.idle 3 (grid0.coords t) = true := by
  have h' : ¬ k0_cond1 (grid0.coords t) = 1#1 := fun e => h ((hcond0_0 t).mp e)
  show (!(k0_cond1 (grid0.coords t) == 1#1)) = true
  rw [beq_eq_false_iff_ne.mpr h']; rfl

/-- and live there. -/
theorem live3 (t : Fin cfg0.N) (h : t.val % 12 = 11) : cfg0.idle 3 (grid0.coords t) = false := by
  have h' : k0_cond1 (grid0.coords t) = 1#1 := (hcond0_0 t).mpr h
  show (!(k0_cond1 (grid0.coords t) == 1#1)) = false
  rw [beq_iff_eq.mpr h']; rfl

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (dats m 0 c).leavesExact 3 t
    ∗ owns (c : Thread nD τ) (ms0_4 t) fullShare ((dats m 0 c).after 4 t))

set_option maxHeartbeats 800000 in
/-- The body at any point: before the last one the block of scales is handed through, at the last one it is stored from the kept rows. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    after0_0, after0_1, after0_2, after0_4]
  rw [show (dats m 0 c).Φ t.castSucc = carried m c t.val from rfl, show (dats m 0 c).Φ t.succ = carried m c (t.val + 1) from rfl]
  unfold carried
  by_cases h0 : t.val % 12 = 11
  · rw [show (dats m 0 c).leavesExact 3 t = owns (c : Thread nD τ) (ms0_3 t) fullShare ((dats m 0 c).after 3 t) from by
      unfold Dat.leavesExact; rw [live3 t h0], after0_3]
    iintro ⟨⟨⟨%xs, HS0, %hk⟩, Hg⟩, Ho, ⟨%d0, H0⟩, ⟨%d1, H1⟩, ⟨%d2, H2⟩, ⟨%d3, H3⟩, ⟨%d4, H4⟩⟩
    iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (cblk m c t) (sblk m c t) xs).2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    iintro ⟨H0, H1, ⟨%e2, H2⟩, ⟨%e3, H3⟩, ⟨%e4, H4⟩, HS0⟩
    isplitl [HS0 Hg]
    · isplitl [HS0]
      · iexists (kept (ms0_0 t) (hs0_0 t) (ms0_1 t) (hs0_1 t) (cblk m c t) (sblk m c t) (Memref.isWhole_whole cc0_scratch0) xs (grid0.coords t))
        isplitl [HS0]
        · unfold owns; iexists _; isplitr
          swap; · iexact HS0
          ipureintro
          rw [rows_B]; rfl
        ipureintro
        exact Kept.step m c _ _ _ _ _ t xs hk
      iexact Hg
    isplitl [Ho]; · iexact Ho
    isplitl [H0]; · iexact H0
    isplitl [H1]; · iexact H1
    isplitl [H2]
    · unfold owns; iexists _; isplitr
      swap; · iexact H2
      ipureintro
      rw [codes_B]; exact codes_read _ _ _ _ _ _ _
    isplitl [H3]
    · unfold owns; iexists _; isplitr
      swap; · iexact H3
      ipureintro
      rw [scales_B]; exact scales_last m c _ _ _ _ _ t h0 xs hk _
    unfold owns; iexists _; isplitr
    swap; · iexact H4
    ipureintro
    rw [back_B]; exact back_read _ _ _ _ _ _ _
  · rw [(dats m 0 c).leavesExact_idle 3 t (idle3 t h0) (Bool.eq_false_iff.mpr fun h => h0 ((flush0_3 t).mp h))]
    iintro ⟨⟨⟨%xs, HS0, %hk⟩, Hg⟩, Ho, ⟨%d0, H0⟩, ⟨%d1, H1⟩, ⟨%d2, H2⟩, ⟨%d3, H3⟩, ⟨%d4, H4⟩⟩
    iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (cblk m c t) (sblk m c t) ((dats m 0 c).before 3 t d3) xs).2.2.2 Set.univ _)
    isplitl [H0]; · iexact H0
    isplitl [H1]; · iexact H1
    isplitl [H2]; · iexists _; iexact H2
    isplitl [H3]; · iexact H3
    isplitl [H4]; · iexists _; iexact H4
    isplitl [HS0]; · iexact HS0
    iintro ⟨H0, H1, ⟨%e2, H2⟩, H3, ⟨%e4, H4⟩, HS0⟩
    isplitl [HS0 Hg]
    · isplitl [HS0]
      · iexists (kept (ms0_0 t) (hs0_0 t) (ms0_1 t) (hs0_1 t) (cblk m c t) (sblk m c t) (Memref.isWhole_whole cc0_scratch0) xs (grid0.coords t))
        isplitl [HS0]
        · unfold owns; iexists _; isplitr
          swap; · iexact HS0
          ipureintro
          rw [rows_A]; rfl
        ipureintro
        exact Kept.step m c _ _ _ _ _ t xs hk
      iexact Hg
    isplitl [Ho]; · iexact Ho
    isplitl [H0]; · iexact H0
    isplitl [H1]; · iexact H1
    isplitl [H2]
    · unfold owns; iexists _; isplitr
      swap; · iexact H2
      ipureintro
      rw [codes_A]; exact codes_read _ _ _ _ _ _ _
    isplitl [H3]
    · iexists _; iexact H3
    unfold owns; iexists _; isplitr
    swap; · iexact H4
    ipureintro
    rw [back_A]; exact back_read _ _ _ _ _ _ _

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

theorem enter (c : Dev nD) : (Pipeline.ΦA spec0 c : sProp 𝕄) ⊢ carried m c 0 := by
  rw [PhiA0_eq]
  unfold carried
  iintro ⟨⟨%d, HS0⟩, Hg⟩
  isplitl [HS0]
  · iexists d
    isplitl [HS0]; · iexact HS0
    ipureintro; exact Kept.zero m c d
  iexact Hg

theorem leave (c : Dev nD) (k : ℕ) : carried m c k ⊢ (Pipeline.ΦA spec0 c : sProp 𝕄) := by
  rw [PhiA0_eq]
  unfold carried
  iintro ⟨⟨%d, HS0, -⟩, Hg⟩
  isplitl [HS0]
  · iexists d; iexact HS0
  iexact Hg

set_option backward.isDefEq.respectTransparency.types false in
/-- Every execution terminates with every array at what the proof data gives, and every semaphore counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => enter m c) (hout := fun c => leave m c _)

theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the argument arrays end unchanged and every counter is zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

/-- The run with each output array named. -/
theorem run_arrays : θ_run defs (onTc (τ := τ) (main (F := Ideal))) ⟨m, fun _ => 0, ρ⟩ fun r => ∀ c : Dev nD,
      r.2.mem ((c : Thread nD τ).loc main_v0_0) = (dats m 0 c).arrAt 2 cfg0.N
      ∧ r.2.mem ((c : Thread nD τ).loc main_v0_1) = (dats m 0 c).arrAt 3 cfg0.N
      ∧ r.2.mem ((c : Thread nD τ).loc main_v0_2) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2, (h c).1 3, (h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Xq
-- ==== Proof.XResult.lean ====
/- The three result arrays after the requantising kernel's run are the reference's three arrays of the same arguments. -/
module

public import proofs.«01_k».proof.Proof.XIFrame
public import Idealize.ShloMosaic.Lib.Pipeline.ValueKit

@[expose] public section

set_option maxRecDepth 16384

noncomputable section

namespace Cert.Xq

open Cert.Group

open Idealize.ShloMosaic Idealize.ShloMosaic.TcCoe
open Cert.XKernelIdeal Cert.XKernelIdeal.Gen
open Idealize.ShloMosaic.Pipeline (Dat)

variable (m : (ℓ : Loc nD τ sig) → Buf (Elt Ideal) ℓ) (c : Dev nD)

/-- The reference's array of codes. -/
abbrev wantCodes : FVec Ideal S2304x12288 .fp8e4m3 :=
  Cert.XReferenceIdeal.Gen.k0_pay1 (F := Ideal) (Cert.XReferenceIdeal.Gen.k0_pay7 (F := Ideal) (CA m c) (SA m c))

/-- The reference's array of scales. -/
abbrev wantScales : FVec Ideal S2304x96 .f32 :=
  Cert.XReferenceIdeal.Gen.k0_pay2 (F := Ideal) (Cert.XReferenceIdeal.Gen.k0_pay6 (F := Ideal) (CA m c) (SA m c))

/-- The reference's array of values put back. -/
abbrev wantBack : FVec Ideal S2304x12288 .bf16 :=
  Cert.XReferenceIdeal.Gen.k0_pay3 (F := Ideal) (Cert.XReferenceIdeal.Gen.k0_pay8 (F := Ideal) (CA m c) (SA m c))

/-- The array of codes after the run. -/
theorem final2 : (dats m 0 c).arrAt 2 cfg0.N = wantCodes m c := by
  refine (dats m 0 c).arrAt_eq_of_covers 2 _ (by decide +kernel) fun t hf y => ?_
  show (dats m 0 c).after 2 t ((cfg0.win 2).xinj (grid0.coords t) y) = _
  rw [after0_2]
  have hn : ((cfg0.win 2).xinj (grid0.coords t) y 0).val < 2304 := ((cfg0.win 2).xinj (grid0.coords t) y 0).isLt
  have hr : ((cfg0.win 2).xinj (grid0.coords t) y 1).val < 1024 := ((cfg0.win 2).xinj (grid0.coords t) y 1).isLt
  have ht := lt_N t
  have he : ((cfg0.win 2).blk t).view.emb y
      = (ix2 (⟨((cfg0.win 2).xinj (grid0.coords t) y 0).val, hn⟩ : Fin 2304)
          (⟨t.val * 1024 + ((cfg0.win 2).xinj (grid0.coords t) y 1).val, by omega⟩ : Fin 12288) : S2304x12288.Idx) := by
    funext a
    apply Fin.ext
    match a with
    | ⟨0, _⟩ => show win0_2.index t 0 * 2304 + 1 * (y 0).val = (y 0).val; rw [(index_2 t).1]; omega
    | ⟨1, _⟩ => show win0_2.index t 1 * 1024 + 1 * (y 1).val = t.val * 1024 + (y 1).val; rw [(index_2 t).2]; omega
  rw [he]
  refine Eq.trans ?_ (refCode_apply (CA m c) (SA m c) _ _).symm
  exact blockCode m c t ⟨_, hn⟩ ⟨_, hr⟩

/-- The array of values put back after the run. -/
theorem final4 : (dats m 0 c).arrAt 4 cfg0.N = wantBack m c := by
  refine (dats m 0 c).arrAt_eq_of_covers 4 _ (by decide +kernel) fun t hf y => ?_
  show (dats m 0 c).after 4 t ((cfg0.win 4).xinj (grid0.coords t) y) = _
  rw [after0_4]
  have hn : ((cfg0.win 4).xinj (grid0.coords t) y 0).val < 2304 := ((cfg0.win 4).xinj (grid0.coords t) y 0).isLt
  have hr : ((cfg0.win 4).xinj (grid0.coords t) y 1).val < 1024 := ((cfg0.win 4).xinj (grid0.coords t) y 1).isLt
  have ht := lt_N t
  have he : ((cfg0.win 4).blk t).view.emb y
      = (ix2 (⟨((cfg0.win 4).xinj (grid0.coords t) y 0).val, hn⟩ : Fin 2304)
          (⟨t.val * 1024 + ((cfg0.win 4).xinj (grid0.coords t) y 1).val, by omega⟩ : Fin 12288) : S2304x12288.Idx) := by
    funext a
    apply Fin.ext
    match a with
    | ⟨0, _⟩ => show win0_4.index t 0 * 2304 + 1 * (y 0).val = (y 0).val; rw [(index_4 t).1]; omega
    | ⟨1, _⟩ => show win0_4.index t 1 * 1024 + 1 * (y 1).val = t.val * 1024 + (y 1).val; rw [(index_4 t).2]; omega
  rw [he]
  refine Eq.trans ?_ (refBack_apply (CA m c) (SA m c) _ _).symm
  exact blockBack m c t ⟨_, hn⟩ ⟨_, hr⟩

/-- The array of scales after the run. -/
theorem final3 : (dats m 0 c).arrAt 3 cfg0.N = wantScales m c := by
  refine (dats m 0 c).arrAt_eq_of_covers 3 _ (by decide +kernel) fun t hf y => ?_
  show (dats m 0 c).after 3 t ((cfg0.win 3).xinj (grid0.coords t) y) = _
  rw [after0_3]
  have hn : ((cfg0.win 3).xinj (grid0.coords t) y 0).val < 2304 := ((cfg0.win 3).xinj (grid0.coords t) y 0).isLt
  have hj : ((cfg0.win 3).xinj (grid0.coords t) y 1).val < 96 := ((cfg0.win 3).xinj (grid0.coords t) y 1).isLt
  have he : ((cfg0.win 3).blk t).view.emb y
      = (ix2 (⟨((cfg0.win 3).xinj (grid0.coords t) y 0).val, hn⟩ : Fin 2304)
          (⟨((cfg0.win 3).xinj (grid0.coords t) y 1).val, hj⟩ : Fin 96) : S2304x96.Idx) := by
    funext a
    apply Fin.ext
    match a with
    | ⟨0, _⟩ => show win0_3.index t 0 * 2304 + 1 * (y 0).val = (y 0).val; rw [(index_3 t).1]; omega
    | ⟨1, _⟩ => show win0_3.index t 1 * 96 + 1 * (y 1).val = (y 1).val; rw [(index_3 t).2]; omega
  rw [he]
  exact (refScales_apply (CA m c) (SA m c) _ _).symm

end Cert.Xq
-- ==== Proof.lean ====
/- The ten claims: the two kernels' frames, the references' frames, and the two value claims from `Proof/Result.lean` and
   `Proof/XResult.lean`. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.XKernel
public import proofs.«01_k».proof.Proof.Gen.XKernelIdeal
public import proofs.«01_k».proof.Proof.Gen.XReferenceIdeal
public import proofs.«01_k».proof.Proof.Gen.XReferenceIdeal.Frame
public import proofs.«01_k».proof.Proof.Gen.XReferenceIdeal.Value
public import proofs.«01_k».proof.Proof.Result
public import proofs.«01_k».proof.Proof.XKFrame
public import proofs.«01_k».proof.Proof.XResult
public import Idealize.ShloMosaic.Adequacy
public import Idealize.ShloMosaic.Init

@[expose] public section

noncomputable section

namespace Cert.Proof

open Idealize.ShloMosaic Idealize.ShloMosaic.TcCoe Idealize.SL.Sem

/-- The gradient kernel's three arrays are the reference's: the product over the codes put back, the codes and the scales. -/
theorem algebraic : Cert.algebraic_KernelIdeal_ReferenceIdeal := by
  intro m ρ m' ρ' hpre hagree
  refine ⟨fun c => Cert.Dw.wantDw m c, fun c => Cert.Dw.wantCodes m c, fun c => Cert.Dw.wantScales m c, ?_, ?_⟩
  · exact (θ_run Cert.KernelIdeal.defs _ _).mono
      (fun _ h c => ⟨(h c).1.trans (Cert.Dw.final2 m c), (h c).2.1.trans (Cert.Dw.final3 m c),
        (h c).2.2.1.trans (Cert.Dw.final4 m c), (h c).2.2.2⟩)
      (Cert.KernelIdeal.Value.run_blocks (F := Ideal) m ρ)
  · refine (θ_run Cert.ReferenceIdeal.defs _ _).mono (fun _ h c => ⟨(h c).1.trans ?_, (h c).2.1.trans ?_, (h c).2.2.1.trans ?_, (h c).2.2.2⟩)
      (Cert.ReferenceIdeal.Value.run (F := Ideal) m' ρ')
    · rw [(hagree c).1, (hagree c).2]
    · rw [(hagree c).1, (hagree c).2]
    · rw [(hagree c).1, (hagree c).2]

/-- The requantising kernel's three arrays are the reference's: the codes, the scales and the values put back. -/
theorem algebraicX : Cert.algebraic_XKernelIdeal_XReferenceIdeal := by
  intro m ρ m' ρ' hpre hagree
  refine ⟨fun c => Cert.Xq.wantCodes m c, fun c => Cert.Xq.wantScales m c, fun c => Cert.Xq.wantBack m c, ?_, ?_⟩
  · exact (θ_run Cert.XKernelIdeal.defs _ _).mono
      (fun _ h c => ⟨(h c).1.trans (Cert.Xq.final2 m c), (h c).2.1.trans (Cert.Xq.final3 m c),
        (h c).2.2.1.trans (Cert.Xq.final4 m c), (h c).2.2.2⟩)
      (Cert.Xq.run_arrays m ρ)
  · refine (θ_run Cert.XReferenceIdeal.defs _ _).mono (fun _ h c => ⟨(h c).1.trans ?_, (h c).2.1.trans ?_, (h c).2.2.1.trans ?_, (h c).2.2.2⟩)
      (Cert.XReferenceIdeal.Value.run (F := Ideal) m' ρ')
    · rw [(hagree c).1, (hagree c).2]
    · rw [(hagree c).1, (hagree c).2]
    · rw [(hagree c).1, (hagree c).2]

theorem claim : Cert.Claim := ⟨Cert.Kernel.Gen.facts, Cert.KernelIdeal.Gen.facts, Cert.ReferenceIdeal.Gen.facts,
  Cert.XKernel.Gen.facts, Cert.XKernelIdeal.Gen.facts, Cert.XReferenceIdeal.Gen.facts,
  fun m ρ _ => Cert.Kernel.Gen.frame m ρ, fun m ρ _ => Cert.KernelIdeal.Gen.frame m ρ, fun m ρ _ => Cert.ReferenceIdeal.Gen.frame m ρ,
  fun m ρ _ => Cert.XKernel.Gen.frame m ρ, fun m ρ _ => Cert.Xq.frame m ρ, fun m ρ _ => Cert.XReferenceIdeal.Gen.frame m ρ,
  trivial, algebraic, trivial, algebraicX⟩

end Cert.Proof

end
